-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_bias [hPre_zero_bias : Cert.Pre_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_bias_above_neg_inf [hPre_bias_above_neg_inf : Cert.Pre_bias_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_bias [hPre_zero_bias : Cert.Pre_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_bias_above_neg_inf [hPre_bias_above_neg_inf : Cert.Pre_bias_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_zero_bias [hKernelIdeal : Cert.KernelIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bias_above_neg_inf [hKernelIdeal : Cert.KernelIdeal.Facts] [hPre_bias_above_neg_inf : Cert.Pre_bias_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_zero_bias [hReferenceIdeal : Cert.ReferenceIdeal.Facts] [hPre_zero_bias : Cert.Pre_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bias_above_neg_inf [hReferenceIdeal : Cert.ReferenceIdeal.Facts] [hPre_bias_above_neg_inf : Cert.Pre_bias_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_zero_bias [hKernelIdeal : Cert.KernelIdeal.Facts] [hReferenceIdeal : Cert.ReferenceIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices_8) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_indices_only_pre_bias_above_neg_inf [hKernelIdeal : Cert.KernelIdeal.Facts] [hReferenceIdeal : Cert.ReferenceIdeal.Facts] [hPre_bias_above_neg_inf : Cert.Pre_bias_above_neg_inf.Facts] [hOn_indices_only : Cert.On_indices_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 8]⟩ : Shape).Idx, (Cert.On_indices_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v4) i = v0 c i)
          ∧ (∀ i : (⟨2, ![16384, 8]⟩ : Shape).Idx, (Cert.On_indices_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v5) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 8]⟩ : Shape).Idx, (Cert.On_indices_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_indices_8) i = v0 c i)
          ∧ (∀ i : (⟨2, ![16384, 8]⟩ : Shape).Idx, (Cert.On_indices_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v32) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_zero_bias : Cert.Pre_zero_bias.Facts) (hPre_bias_above_neg_inf : Cert.Pre_bias_above_neg_inf.Facts) (hOn_indices_only : Cert.On_indices_only.Facts),
    quiescent_Kernel (hKernel := hKernel)
    ∧ quiescent_KernelIdeal (hKernelIdeal := hKernelIdeal)
    ∧ quiescent_KernelIdeal_pre_zero_bias (hKernelIdeal := hKernelIdeal) (hPre_zero_bias := hPre_zero_bias)
    ∧ quiescent_KernelIdeal_pre_bias_above_neg_inf (hKernelIdeal := hKernelIdeal) (hPre_bias_above_neg_inf := hPre_bias_above_neg_inf)
    ∧ quiescent_ReferenceIdeal (hReferenceIdeal := hReferenceIdeal)
    ∧ quiescent_ReferenceIdeal_pre_zero_bias (hReferenceIdeal := hReferenceIdeal) (hPre_zero_bias := hPre_zero_bias)
    ∧ quiescent_ReferenceIdeal_pre_bias_above_neg_inf (hReferenceIdeal := hReferenceIdeal) (hPre_bias_above_neg_inf := hPre_bias_above_neg_inf)
    ∧ preserves_Kernel_KernelIdeal
    ∧ algebraic_KernelIdeal_ReferenceIdeal_pre_zero_bias (hKernelIdeal := hKernelIdeal) (hReferenceIdeal := hReferenceIdeal) (hPre_zero_bias := hPre_zero_bias)
    ∧ algebraic_KernelIdeal_ReferenceIdeal_on_indices_only_pre_bias_above_neg_inf (hKernelIdeal := hKernelIdeal) (hReferenceIdeal := hReferenceIdeal) (hPre_bias_above_neg_inf := hPre_bias_above_neg_inf) (hOn_indices_only := hOn_indices_only)
-- ==== On_indices_only.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩
abbrev S16384x8 : Shape := ⟨2, ![16384, 8]⟩

class Facts : Prop where
  bcast_S_S16384x8 : S_.BroadcastsInDim S16384x8 (![] : Fin 0 → Fin S16384x8.rank)

variable [Facts]

def fn {F : FTy → Type} [FloatOps F] (main_arg0 : FVec F S4x4096x2048 .f32) (main_arg1 : FVec F S64x2048 .f32) (main_arg2 : FVec F S64 .f32) : IVec S16384x8 1 × IVec S16384x8 1 :=
  let main_c : IVec S_ 1 := constantI S_ 1 1#1
  let main_v0 : IVec S16384x8 1 := broadcastInDim S16384x8 ![] bcast_S_S16384x8 main_c
  let main_c_0 : IVec S_ 1 := constantI S_ 1 0#1
  let main_v1 : IVec S16384x8 1 := broadcastInDim S16384x8 ![] bcast_S_S16384x8 main_c_0
  (main_v0, main_v1)
-- ==== Pre_bias_above_neg_inf.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4x4096x2048 .f32) (main_arg1 : FVec F S64x2048 .f32) (main_arg2 : FVec F S64 .f32) : IVec S64 1 :=
  let main_cst : FVec F S_ .f32 := constant S_ .f32 0xFF800000#32
  let main_v0 : FVec F S64 .f32 := broadcastInDim S64 ![] bcast_S_S64 main_cst
  let main_v1 : IVec S64 1 := cmpf .ogt main_arg2 main_v0
  main_v1
-- ==== Pre_zero_bias.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4x4096x2048 .f32) (main_arg1 : FVec F S64x2048 .f32) (main_arg2 : FVec F S64 .f32) : IVec S64 1 :=
  let main_cst : FVec F S_ .f32 := constant S_ .f32 0x00000000#32
  let main_v0 : FVec F S64 .f32 := broadcastInDim S64 ![] bcast_S_S64 main_cst
  let main_v1 : IVec S64 1 := cmpf .oeq main_arg2 main_v0
  main_v1
-- ==== Kernel.lean ====
abbrev S4x4096x2048 : Shape := ⟨3, ![4, 4096, 2048]⟩
abbrev S64x2048 : Shape := ⟨2, ![64, 2048]⟩
abbrev S64 : Shape := ⟨1, ![64]⟩
abbrev S16384x2048 : Shape := ⟨2, ![16384, 2048]⟩
abbrev S2048x64 : Shape := ⟨2, ![2048, 64]⟩
abbrev S64x1 : Shape := ⟨2, ![64, 1]⟩
abbrev S8x16384 : Shape := ⟨2, ![8, 16384]⟩
abbrev S2048x2048 : Shape := ⟨2, ![2048, 2048]⟩
abbrev S8x2048 : Shape := ⟨2, ![8, 2048]⟩
abbrev S2048 : Shape := ⟨1, ![2048]⟩
abbrev S1x2048 : Shape := ⟨2, ![1, 2048]⟩
abbrev S16384x8 : Shape := ⟨2, ![16384, 8]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S16384x2048, .f32⟩
  | .hbm, ⟨4, _⟩ => ⟨S2048x64, .f32⟩
  | .hbm, ⟨5, _⟩ => ⟨S64x1, .f32⟩
  | .hbm, ⟨6, _⟩ => ⟨S8x16384, .i32⟩
  | .hbm, ⟨7, _⟩ => ⟨S8x16384, .f32⟩
  | .hbm, ⟨8, _⟩ => ⟨S16384x8, .i32⟩
  | .hbm, ⟨9, _⟩ => ⟨S16384x8, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S64x1, .f32⟩
  | .local _ .vmem, ⟨4, _⟩ => ⟨S8x2048, .i32⟩
  | .local _ .vmem, ⟨5, _⟩ => ⟨S8x2048, .i32⟩
  | .local _ .vmem, ⟨6, _⟩ => ⟨S8x2048, .f32⟩
  | .local _ .vmem, ⟨7, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S1x64 : Shape := ⟨2, ![1, 64]⟩
abbrev S16384x8x8 : Shape := ⟨3, ![16384, 8, 8]⟩
abbrev S16384x8x2 : Shape := ⟨3, ![16384, 8, 2]⟩
abbrev S16384x8 : Shape := ⟨2, ![16384, 8]⟩
abbrev S16384x4 : Shape := ⟨2, ![16384, 4]⟩
abbrev S16384x4x1 : Shape := ⟨3, ![16384, 4, 1]⟩
abbrev S1x1x8 : Shape := ⟨3, ![1, 1, 8]⟩
abbrev S16384x4x8 : Shape := ⟨3, ![16384, 4, 8]⟩
abbrev S16384x8x1 : Shape := ⟨3, ![16384, 8, 1]⟩
abbrev S16384x8x1x8 : Shape := ⟨4, ![16384, 8, 1, 8]⟩
abbrev S1 : Shape := ⟨1, ![1]⟩
abbrev S1x1x1 : Shape := ⟨3, ![1, 1, 1]⟩
abbrev S16384 : Shape := ⟨1, ![16384]⟩
abbrev S16384x1 : Shape := ⟨2, ![16384, 1]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S16384x2048, .f32⟩
  | .hbm, ⟨4, _⟩ => ⟨S2048x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384x64, .f32⟩
  | .hbm, ⟨13, _⟩ => ⟨S16384x64, .f32⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S16384x8x8, .f32⟩
  | .hbm, ⟨18, _⟩ => ⟨S16384x8x2, .f32⟩
  | .hbm, ⟨19, _⟩ => ⟨S16384x8x2, .i32⟩
  | .hbm, ⟨20, _⟩ => ⟨S_, .f32⟩
  | .hbm, ⟨21, _⟩ => ⟨S16384x8, .f32⟩
  | .hbm, ⟨22, _⟩ => ⟨S16384x4, .f32⟩
  | .hbm, ⟨23, _⟩ => ⟨S16384x4, .i32⟩
  | .hbm, ⟨24, _⟩ => ⟨S16384x4x1, .i32⟩
  | .hbm, ⟨25, _⟩ => ⟨S1x1x8, .i32⟩
  | .hbm, ⟨26, _⟩ => ⟨S16384x4x8, .i32⟩
  | .hbm, ⟨27, _⟩ => ⟨S16384x4x8, .i32⟩
  | .hbm, ⟨28, _⟩ => ⟨S16384x4x8, .i1⟩
  | .hbm, ⟨29, _⟩ => ⟨S16384x4x8, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S16384x8x1x8, .f32⟩
  | .hbm, ⟨34, _⟩ => ⟨S16384x8x8, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .i1⟩
  | .hbm, ⟨39, _⟩ => ⟨S16384x64, .i1⟩
  | .hbm, ⟨40, _⟩ => ⟨S_, .f32⟩
  | .hbm, ⟨41, _⟩ => ⟨S_, .f32⟩
  | .hbm, ⟨42, _⟩ => ⟨S16384x64, .f32⟩
  | .hbm, ⟨43, _⟩ => ⟨S16384x64, .f32⟩
  | .hbm, ⟨44, _⟩ => ⟨S16384x8, .f32⟩
  | .hbm, ⟨45, _⟩ => ⟨S16384x8, .i32⟩
  | .hbm, ⟨46, _⟩ => ⟨S_, .i32⟩
  | .hbm, ⟨47, _⟩ => ⟨S16384x8, .i32⟩
  | .hbm, ⟨48, _⟩ => ⟨S16384x8, .i1⟩
  | .hbm, ⟨49, _⟩ => ⟨S_, .i32⟩
  | .hbm, ⟨50, _⟩ => ⟨S16384x8, .i32⟩
  | .hbm, ⟨51, _⟩ => ⟨S16384x8, .i32⟩
  | .hbm, ⟨52, _⟩ => ⟨S16384x8, .i32⟩
  | .hbm, ⟨53, _⟩ => ⟨S16384x8x1, .i32⟩
  | .hbm, ⟨54, _⟩ => ⟨S1, .i32⟩
  | .hbm, ⟨55, _⟩ => ⟨S_, .i32⟩
  | .hbm, ⟨56, _⟩ => ⟨S16384x8x1, .i32⟩
  | .hbm, ⟨57, _⟩ => ⟨S16384x8x1, .i1⟩
  | .hbm, ⟨58, _⟩ => ⟨S1x1x1, .i32⟩
  | .hbm, ⟨59, _⟩ => ⟨S16384x8x1, .i32⟩
  | .hbm, ⟨60, _⟩ => ⟨S16384x8x1, .i1⟩
  | .hbm, ⟨61, _⟩ => ⟨S16384x8x1, .i1⟩
  | .hbm, ⟨62, _⟩ => ⟨S_, .i1⟩
  | .hbm, ⟨63, _⟩ => ⟨S16384x8, .i1⟩
  | .hbm, ⟨64, _⟩ => ⟨S16384x8, .f32⟩
  | .hbm, ⟨65, _⟩ => ⟨S_, .f32⟩
  | .hbm, ⟨66, _⟩ => ⟨S16384x8, .f32⟩
  | .hbm, ⟨67, _⟩ => ⟨S16384x8, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x8, .f32⟩
  | .hbm, ⟨75, _⟩ => ⟨S16384x8, .f32⟩
  | .hbm, ⟨76, _⟩ => ⟨S_, .f32⟩
  | .hbm, ⟨77, _⟩ => ⟨S16384x8, .f32⟩
  | .hbm, ⟨78, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_1 : Ref sig .tc := ⟨.hbm, 20, rfl⟩
abbrev main_v13 : Ref sig .tc := ⟨.hbm, 21, rfl⟩
abbrev main_values_2 : Ref sig .tc := ⟨.hbm, 22, rfl⟩
abbrev main_indices_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v23 : Ref sig .tc := ⟨.hbm, 43, rfl⟩
abbrev main_values_7 : Ref sig .tc := ⟨.hbm, 44, rfl⟩
abbrev main_indices_8 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v24 : Ref sig .tc := ⟨.hbm, 67, rfl⟩
abbrev main_cst_9 : Ref sig .tc := ⟨.hbm, 68, rfl⟩
abbrev main_v25 : Ref sig .tc := ⟨.hbm, 69, rfl⟩
abbrev main_v26 : Ref sig .tc := ⟨.hbm, 70, rfl⟩
abbrev main_cst_10 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_11 : Ref sig .tc := ⟨.hbm, 76, rfl⟩
abbrev main_v31 : Ref sig .tc := ⟨.hbm, 77, rfl⟩
abbrev main_v32 : Ref sig .tc := ⟨.hbm, 78, rfl⟩

abbrev nD : Nat := 1
abbrev τ : Topo := Topo.v7x

variable {F : FTy → Type} [FloatOps F]
-- ==== Proof.Selection.lean ====
/-
  SELECTION BY RANK AND SELECTION BY ROUNDS, over a linear order. `rank x r` is the position that a stable descending sort of `x` puts at
  place `r`; one round of the kernel picks the first position attaining the maximum and overwrites it with the bottom. The two agree as
  long as the picked values lie above the bottom (`firstMax_rounds`). Also the sum of the two largest, which the kernel finds by counting.
-/
module

public import Idealize.ShloMosaic.Lib.SortFacts
public import Mathlib.Data.EReal.Operations

@[expose] public section

noncomputable section

namespace Cert.Router

open Idealize.ShloMosaic

variable {n : Nat} {α : Type} [LinearOrder α]

/-- Position `i` comes strictly before `k`: a larger value, or the same value further to the left. -/
def Ahead (x : Fin n → α) (i k : Fin n) : Prop := x k < x i ∨ (x k = x i ∧ i < k)

/-- The comparison a descending `top_k` sorts by: strictly larger values first. -/
def larger (x : Fin n → α) (i k : Fin n) : Bool := decide (x k < x i)

/-- The position a stable descending sort of `x` puts at place `r`. -/
def rank (x : Fin n → α) (r : Fin n) : Fin n := sortedFrom (larger x) r

/-- `Ahead` as a Boolean comparison. -/
def aheadB (x : Fin n → α) (i k : Fin n) : Bool := decide (x k < x i ∨ (x k = x i ∧ i < k))

/-- On an increasing list of positions the stable sort by value is the sort by value and then position. -/
theorem stableSort_larger (x : Fin n → α) (l : List (Fin n)) (hl : l.Pairwise (· < ·)) :
    stableSort (larger x) l = stableSort (aheadB x) l := by
  induction l with
  | nil => rfl
  | cons a l ih =>
    rw [List.pairwise_cons] at hl
    have h : ∀ b ∈ stableSort (aheadB x) l, larger x b a = aheadB x b a := by
      intro b hb
      have hab : a < b := hl.1 b ((perm_stableSort _ l).mem_iff.mp hb)
      simp only [larger, aheadB, decide_eq_decide]
      exact ⟨Or.inl, fun h => h.resolve_right fun h' => absurd h'.2 (not_lt.mpr hab.le)⟩
    unfold stableSort
    rw [ih hl.2, insertBefore_congr _ _ _ _ h]

theorem rank_eq (x : Fin n → α) (r : Fin n) : rank x r = sortedFrom (aheadB x) r := by
  have h : sortPositions n (larger x) = sortPositions n (aheadB x) :=
    stableSort_larger x _ (List.pairwise_lt_finRange n)
  unfold rank sortedFrom
  rw [List.get_of_eq h]
  rfl

theorem rank_injective (x : Fin n → α) : Function.Injective (rank x) := sortedFrom_injective _

theorem rank_surjective (x : Fin n → α) : Function.Surjective (rank x) := sortedFrom_surjective _

/-- Places are filled in order. -/
theorem rank_ahead (x : Fin n → α) {i j : Fin n} (hij : i < j) : Ahead x (rank x i) (rank x j) := by
  have h := sortedFrom_noInversion (aheadB x) (aheadB x)
    (fun a b h => by
      simp only [aheadB, decide_eq_true_eq, decide_eq_false_iff_not] at h ⊢
      rcases h with h | ⟨h, h'⟩
      · rintro (h2 | ⟨h2, _⟩)
        · exact lt_asymm h h2
        · exact absurd h2 (ne_of_gt h)
      · rintro (h2 | ⟨_, h2⟩)
        · exact absurd h (ne_of_gt h2)
        · exact lt_asymm h' h2)
    (fun _ _ h => h)
    (fun a b c h1 h2 => by
      simp only [aheadB, decide_eq_false_iff_not, not_or, not_lt, not_and] at h1 h2 ⊢
      refine ⟨h1.1.trans h2.1, fun h => ?_⟩
      have hab : x b = x a := le_antisymm (h ▸ h2.1) h1.1
      have hbc : x c = x b := h.trans hab.symm
      exact (h2.2 hbc).trans (h1.2 hab)) i j hij
  simp only [aheadB, decide_eq_false_iff_not, not_or, not_lt, not_and] at h
  rw [← rank_eq, ← rank_eq] at h
  rcases lt_or_eq_of_le h.1 with h1 | h1
  · exact Or.inl h1
  · refine Or.inr ⟨h1, lt_of_le_of_ne (h.2 h1.symm) fun h2 => hij.ne (rank_injective x h2)⟩

theorem rank_antitone (x : Fin n → α) {i j : Fin n} (hij : i ≤ j) : x (rank x j) ≤ x (rank x i) := by
  rcases lt_or_eq_of_le hij with h | rfl
  · rcases rank_ahead x h with h | h
    · exact h.le
    · exact h.1.le
  · exact le_rfl

/-- Entries above `b`, at least `k` of them, fill the first `k` places. -/
theorem lt_rank (x : Fin n → α) (b : α) (s : Finset (Fin n)) (hs : ∀ i ∈ s, b < x i) (r : Fin n) (hr : r.val < s.card) :
    b < x (rank x r) := by
  by_contra hle
  rw [not_lt] at hle
  have hsub : s ⊆ (Finset.univ.filter fun j : Fin n => j < r).image (rank x) := by
    intro i hi
    obtain ⟨j, rfl⟩ := rank_surjective x i
    refine Finset.mem_image_of_mem _ (Finset.mem_filter.mpr ⟨Finset.mem_univ _, ?_⟩)
    by_contra hj
    exact absurd (hs _ hi) (not_lt.mpr ((rank_antitone x (not_lt.mp hj)).trans hle))
  have hcard := (Finset.card_le_card hsub).trans Finset.card_image_le
  rw [show (Finset.univ.filter fun j : Fin n => j < r) = Finset.Iio r by ext; simp, Fin.card_Iio] at hcard
  omega

/-- `p` is the first position at which `x` attains its maximum. -/
def FirstMax (x : Fin n → α) (p : Fin n) : Prop := ∀ k, k ≠ p → Ahead x p k

theorem FirstMax.le {x : Fin n → α} {p : Fin n} (h : FirstMax x p) (k : Fin n) : x k ≤ x p := by
  by_cases hk : k = p
  · rw [hk]
  · rcases h k hk with h | h
    · exact h.le
    · exact h.1.le

/-- The first maximum is the leftmost among the positions with the maximum's value. -/
theorem FirstMax.le_of_eq {x : Fin n → α} {p : Fin n} (h : FirstMax x p) {k : Fin n} (hk : x k = x p) : p ≤ k := by
  by_cases hkp : k = p
  · rw [hkp]
  · rcases h k hkp with h | h
    · exact absurd hk h.ne
    · exact h.2.le

variable [OrderBot α]

/-- `x` with its first `r` places overwritten by the bottom: the kernel's block after `r` rounds. -/
def rounds (x : Fin n → α) (r : Nat) : Fin n → α := fun k => if ∃ j : Fin n, j.val < r ∧ rank x j = k then ⊥ else x k

theorem rounds_zero (x : Fin n → α) : rounds x 0 = x := by
  funext k
  simp [rounds]

/-- One more round overwrites the next place. -/
theorem rounds_succ (x : Fin n → α) (r : Fin n) (k : Fin n) :
    (if k = rank x r then ⊥ else rounds x r.val k) = rounds x (r.val + 1) k := by
  unfold rounds
  by_cases hk : k = rank x r
  · rw [if_pos hk, if_pos ⟨r, Nat.lt_succ_self _, hk.symm⟩]
  · rw [if_neg hk]
    refine if_congr ?_ rfl rfl
    constructor
    · rintro ⟨j, hj, h⟩
      exact ⟨j, Nat.lt_succ_of_lt hj, h⟩
    · rintro ⟨j, hj, h⟩
      rcases Nat.lt_succ_iff_lt_or_eq.mp hj with h' | h'
      · exact ⟨j, h', h⟩
      · exact absurd (by rw [← h, Fin.ext h']) hk

theorem rounds_rank (x : Fin n → α) (r : Fin n) : rounds x r.val (rank x r) = x (rank x r) := by
  unfold rounds
  rw [if_neg]
  rintro ⟨j, hj, h⟩
  rw [rank_injective x h] at hj
  exact lt_irrefl _ hj

/-- Round `r` picks the sort's place `r`, if that place holds a value above the bottom. -/
theorem firstMax_rounds (x : Fin n → α) (r : Fin n) (h : ⊥ < x (rank x r)) : FirstMax (rounds x r.val) (rank x r) := by
  intro k hk
  obtain ⟨j, rfl⟩ := rank_surjective x k
  have hjr : j ≠ r := fun h => hk (by rw [h])
  unfold Ahead
  rw [rounds_rank]
  rcases lt_or_gt_of_ne hjr with hj | hj
  · have : rounds x r.val (rank x j) = ⊥ := if_pos ⟨j, hj, rfl⟩
    rw [this]
    exact Or.inl h
  · have : rounds x r.val (rank x j) = x (rank x j) := by
      unfold rounds
      rw [if_neg]
      rintro ⟨i, hi, h⟩
      rw [rank_injective x h] at hi
      exact lt_asymm hj hi
    rw [this]
    exact rank_ahead x hj

omit [OrderBot α] in
theorem firstMax_rank_zero (x : Fin (n + 1) → α) : FirstMax x (rank x 0) := by
  intro k hk
  obtain ⟨j, rfl⟩ := rank_surjective x k
  refine rank_ahead x (Fin.pos_iff_ne_zero.mpr fun h => hk (by rw [h]))

omit [OrderBot α] in
/-- The second place is the maximum again when another position attains it. -/
theorem rank_one_of_tie (x : Fin (n + 2) → α) {k : Fin (n + 2)} (hk : k ≠ rank x 0) (h : x k = x (rank x 0)) :
    x (rank x 1) = x (rank x 0) := by
  refine le_antisymm (rank_antitone x (Fin.zero_le _)) ?_
  obtain ⟨j, rfl⟩ := rank_surjective x k
  rw [← h]
  refine rank_antitone x ?_
  have : j ≠ 0 := fun h => hk (by rw [h])
  exact Fin.one_le_of_ne_zero this

omit [OrderBot α] in
/-- Everything but the first place is at most the second. -/
theorem le_rank_one (x : Fin (n + 2) → α) {k : Fin (n + 2)} (hk : k ≠ rank x 0) : x k ≤ x (rank x 1) := by
  obtain ⟨j, rfl⟩ := rank_surjective x k
  refine rank_antitone x ?_
  have : j ≠ 0 := fun h => hk (by rw [h])
  exact Fin.one_le_of_ne_zero this

end Cert.Router

end
-- ==== Proof.Columns.lean ====
/-
  THE KERNEL'S STEPS, COLUMN BY COLUMN, over the extended reals. A block has `N` rows and `L` columns, a token in each column; a "row" is a
  block of one row. Each step of the kernel is named here as the operations it is printed with, and read at one column:
  `topRow` (the columns' maxima), `argRow` (the first row at the maximum), `strike` (that row overwritten with −∞), `state` (the block
  after some rounds of the three) and `pairRow` (the sum of the two largest).
-/
module

public import proofs.«01_k».proof.Proof.Selection
public import Idealize.ShloMosaic.Lib.ValueLayout
public import Idealize.ShloMosaic.Lib.Pipeline.Value
public import Idealize.ShloMosaic.Lib.WordCmp
public import Idealize.ShloMosaic.Lib.IdealHost
public import Idealize.ShloMosaic.PureOps.Ideal.Laws

@[expose] public section

noncomputable section

namespace Cert.Router

open Idealize.ShloMosaic Idealize.ShloMosaic.ValueIdx

/-! ## Constants -/

theorem word_negInf : Ideal.ofBits .f32 0xFF800000#32 = ⊥ := by simp [Ideal.ofBits, Ideal.ieee]
theorem word_posInf : Ideal.ofBits .f32 0x7F800000#32 = ⊤ := by simp [Ideal.ofBits, Ideal.ieee]
theorem word_eight : Ideal.ofBits .f32 0x41000000#32 = ((8 : ℝ) : EReal) := by
  simp [Ideal.ofBits, Ideal.ieee, -EReal.coe_mul]; norm_num
theorem word_sixtyFour : Ideal.ofBits .f32 0x42800000#32 = ((64 : ℝ) : EReal) := by
  simp [Ideal.ofBits, Ideal.ieee, -EReal.coe_mul]; norm_num

/-- A row's number as the kernel keeps it, a float. -/
abbrev num {N : Nat} (k : Fin N) : EReal := ((k.val : ℝ) : EReal)

theorem num_le {N : Nat} {i k : Fin N} : num i ≤ num k ↔ i ≤ k := by
  rw [EReal.coe_le_coe_iff, Nat.cast_le, Fin.le_def]

theorem num_inj {N : Nat} {i k : Fin N} : num i = num k ↔ i = k := by
  rw [EReal.coe_eq_coe_iff, Nat.cast_inj, Fin.ext_iff]

/-- Back to a 32-bit integer, a row's number is itself. -/
theorem fptosi_num {N : Nat} (hN : N ≤ 64) (k : Fin N) : Ideal.fptosi 32 (num k) = BitVec.ofNat 32 k.val := by
  have hk : k.val < 64 := lt_of_lt_of_le k.isLt hN
  rw [Ideal.fptosi, Ideal.toIntClamped_coe, if_pos (Nat.cast_nonneg _), Int.floor_natCast]
  have h : max (-((2 ^ (32 - 1) : Nat) : Int)) (min (((2 ^ (32 - 1) : Nat) : Int) - 1) (k.val : Int)) = (k.val : Int) := by
    norm_num
    omega
  rw [h, BitVec.ofInt_natCast]

/-! ## The shapes -/

variable {N L : Nat}

/-- `N` rows, `L` columns. -/
abbrev Blk (N L : Nat) : Shape := ⟨2, ![N, L]⟩
/-- One value a column. -/
abbrev Cols (L : Nat) : Shape := ⟨1, ![L]⟩

theorem reducesRows (N L : Nat) : (Blk N L).Reduces [0] (Cols L) :=
  ⟨rfl, Nat.one_pos, fun b => by obtain rfl : b = 0 := Subsingleton.elim _ _; rfl⟩
theorem castsRow (L : Nat) : (Cols L).ShapeCasts (Blk 1 L) := by
  show (Blk 1 L).numel = (Cols L).numel
  simp [Shape.numel, Fin.prod_univ_succ]
theorem spreadsRow (N L : Nat) : (Blk 1 L).Broadcasts (Blk N L) :=
  ⟨le_rfl, fun a => match a with
    | ⟨0, _⟩ => Or.inl rfl
    | ⟨1, _⟩ => Or.inr fun _ => rfl⟩

/-- Column `j` of a block. -/
def col {α : Type} (v : (Blk N L).Idx → α) (j : Fin L) : Fin N → α := fun k => v (ix2 k j)

theorem lift_row (h : (Blk N L).Reduces [0] (Cols L)) (j : Fin L) (k : Fin N) : h.lift (ix1 j) k = ix2 k j := by
  funext a
  match a with
  | ⟨0, _⟩ => rfl
  | ⟨1, _⟩ => rfl

/-! ## The columns' maxima -/

/-- The columns' maxima, as one row. -/
def topRow (v : FVec Ideal (Blk N L) .f32) : FVec Ideal (Blk 1 L) .f32 :=
  shapeCast (Blk 1 L) (multiReduction .maximumf [0] (Cols L) v 0xFF800000#32 (reducesRows N L) (.inl rfl) rfl) (castsRow L)

theorem topRow_apply (v : FVec Ideal (Blk N L) .f32) (j : Fin L) :
    topRow v (ix2 0 j) = Finset.univ.fold max ⊥ (col v j) := by
  unfold topRow
  rw [shapeCast_a_1a_apply]
  refine (Ideal.multiReduction_maximumf_single v _ (reducesRows N L) _ _ (ix1 j)).trans ?_
  rw [Ideal.ofBits_def, word_negInf]
  refine Finset.fold_congr fun k _ => ?_
  exact congrArg v (lift_row (reducesRows N L) j k)

/-- A maximum that is attained and bounds the others. -/
theorem fold_max_eq {ι : Type} [Fintype ι] (x : ι → EReal) (p : ι) (h : ∀ k, x k ≤ x p) : Finset.univ.fold max ⊥ x = x p := by
  refine le_antisymm ?_ ?_
  · rw [Finset.fold_max_le]
    exact ⟨bot_le, fun k _ => h k⟩
  · rw [Finset.le_fold_max]
    exact Or.inr ⟨p, Finset.mem_univ _, le_rfl⟩

theorem topRow_eq (v : FVec Ideal (Blk N L) .f32) (j : Fin L) (p : Fin N) (h : FirstMax (col v j) p) :
    topRow v (ix2 0 j) = col v j p := by
  rw [topRow_apply, fold_max_eq _ p h.le]

/-! ## Where a block equals a row -/

/-- Where the block equals the row `m`. -/
def eqRow (v : FVec Ideal (Blk N L) .f32) (m : FVec Ideal (Blk 1 L) .f32) : IVec (Blk N L) 1 :=
  cmpf .oeq v (broadcastTo (Blk N L) m (spreadsRow N L))

theorem eqRow_apply (v : FVec Ideal (Blk N L) .f32) (m : FVec Ideal (Blk 1 L) .f32) (k : Fin N) (j : Fin L) :
    eqRow v m (ix2 k j) = BitVec.ofBool (decide (col v j k = m (ix2 0 j))) := by
  show BitVec.ofBool (decide (v (ix2 k j) = broadcastTo (Blk N L) m (spreadsRow N L) (ix2 k j))) = _
  rw [broadcastTo_1b_ab_apply]
  rfl

/-- The rows' numbers as floats. -/
def rowNums (N L : Nat) (h : (Blk N L).Iotas .tc 32 [0]) : FVec Ideal (Blk N L) .f32 := sitofp .f32 (iota .tc (Blk N L) 32 [0] h)

theorem rowNums_apply (h : (Blk N L).Iotas .tc 32 [0]) (hN : N ≤ 64) (k : Fin N) (j : Fin L) : rowNums N L h (ix2 k j) = num k := by
  show (((iota .tc (Blk N L) 32 [0] h (ix2 k j)).toInt : ℝ) : EReal) = _
  rw [iota_single_apply]
  have hk : k.val < 64 := lt_of_lt_of_le k.isLt hN
  have h2 : (BitVec.ofNat 32 ((ix2 k j : (Blk N L).Idx) 0).val).toInt = (k.val : Int) := by
    show (BitVec.ofNat 32 k.val).toInt = _
    rw [BitVec.toInt_ofNat']
    simp only [Int.bmod]
    omega
  rw [h2]
  push_cast
  rfl

/-! ## One round -/

/-- The first row at the maxima `m`, as one row of floats; `w` stands where the block differs from `m`. -/
def argRow (w : BitVec 32) (io v : FVec Ideal (Blk N L) .f32) (m : FVec Ideal (Blk 1 L) .f32) : FVec Ideal (Blk 1 L) .f32 :=
  shapeCast (Blk 1 L) (multiReduction .minimumf [0] (Cols L)
    (select (eqRow v m) io (broadcast (Blk N L) (Scalar.ofBits .f32 w))) 0x7F800000#32 (reducesRows N L) (.inl rfl) rfl) (castsRow L)

theorem argRow_eq (w : BitVec 32) (hw : ((N : ℝ) : EReal) ≤ Ideal.ofBits .f32 w) (io v : FVec Ideal (Blk N L) .f32)
    (m : FVec Ideal (Blk 1 L) .f32) (j : Fin L) (p : Fin N) (hio : ∀ k, io (ix2 k j) = num k) (hp : FirstMax (col v j) p)
    (hm : m (ix2 0 j) = col v j p) : argRow w io v m (ix2 0 j) = num p := by
  unfold argRow
  rw [shapeCast_a_1a_apply]
  refine (multiReduction_minimumf_eq_fold _ _ (reducesRows N L) _ _ (ix1 j)).trans ?_
  refine (Shape.Reduces.fold_filter_drop_single (reducesRows N L) _ _ _ (ix1 j)).trans ?_
  have hval : ∀ k : Fin N, select (eqRow v m) io (broadcast (Blk N L) (Scalar.ofBits .f32 w)) ((reducesRows N L).lift (ix1 j) k)
      = if col v j k = col v j p then num k else Ideal.ofBits .f32 w := by
    intro k
    rw [lift_row]
    show Scalar.select (eqRow v m (ix2 k j)) (io (ix2 k j)) (Ideal.ofBits .f32 w) = _
    rw [eqRow_apply, hm, hio, WordCmp.select_decide]
  refine (Finset.fold_congr fun k _ => hval k).trans ?_
  rw [Ideal.ofBits_def, word_posInf]
  show Finset.univ.fold min ⊤ (fun k : Fin N => if col v j k = col v j p then num k else Ideal.ofBits .f32 w) = num p
  refine le_antisymm ?_ ?_
  · rw [Finset.fold_min_le]
    exact Or.inr ⟨p, Finset.mem_univ _, by rw [if_pos rfl]⟩
  · rw [Finset.le_fold_min]
    refine ⟨le_top, fun k _ => ?_⟩
    split
    · next h => exact num_le.mpr (hp.le_of_eq h)
    · refine le_trans ?_ hw
      rw [EReal.coe_le_coe_iff, Nat.cast_le]
      exact p.isLt.le

theorem eqRow_num (io : FVec Ideal (Blk N L) .f32) (g : FVec Ideal (Blk 1 L) .f32) (j : Fin L) (p k : Fin N)
    (hio : ∀ k, io (ix2 k j) = num k) (hg : g (ix2 0 j) = num p) :
    eqRow io g (ix2 k j) = BitVec.ofBool (decide (k = p)) := by
  rw [eqRow_apply, hg]
  unfold col
  rw [hio]
  simp only [num_inj]

/-- The block with the rows numbered `g` overwritten by −∞. -/
def strike (io : FVec Ideal (Blk N L) .f32) (g : FVec Ideal (Blk 1 L) .f32) (v : FVec Ideal (Blk N L) .f32) : FVec Ideal (Blk N L) .f32 :=
  select (eqRow io g) (broadcast (Blk N L) (Scalar.ofBits .f32 0xFF800000#32)) v

theorem col_strike (io : FVec Ideal (Blk N L) .f32) (g : FVec Ideal (Blk 1 L) .f32) (v : FVec Ideal (Blk N L) .f32) (j : Fin L) (p : Fin N)
    (hio : ∀ k, io (ix2 k j) = num k) (hg : g (ix2 0 j) = num p) (k : Fin N) :
    col (strike io g v) j k = if k = p then ⊥ else col v j k := by
  show Scalar.select (eqRow io g (ix2 k j)) (Ideal.ofBits .f32 0xFF800000#32) (v (ix2 k j)) = _
  rw [eqRow_num io g j p k hio hg, WordCmp.select_decide, word_negInf]
  rfl

/-! ## Rounds -/

/-- The block after `r` rounds. -/
def state (w : BitVec 32) (io v : FVec Ideal (Blk N L) .f32) : Nat → FVec Ideal (Blk N L) .f32
  | 0 => v
  | r + 1 => strike io (argRow w io (state w io v r) (topRow (state w io v r))) (state w io v r)

/-- The maxima found in round `r`. -/
def tops (w : BitVec 32) (io v : FVec Ideal (Blk N L) .f32) (r : Nat) : FVec Ideal (Blk 1 L) .f32 := topRow (state w io v r)

/-- The rows picked in round `r`. -/
def picks (w : BitVec 32) (io v : FVec Ideal (Blk N L) .f32) (r : Nat) : FVec Ideal (Blk 1 L) .f32 :=
  argRow w io (state w io v r) (tops w io v r)

section Rounds

variable (w : BitVec 32) (hw : ((N : ℝ) : EReal) ≤ Ideal.ofBits .f32 w) (io v : FVec Ideal (Blk N L) .f32) (j : Fin L)
  (hio : ∀ k, io (ix2 k j) = num k) (x : Fin N → EReal) (hx : col v j = x)

include hw hio hx

/-- As long as the places passed hold values above −∞, the block after `r` rounds is the column with its first `r` places struck. -/
theorem col_state (r : Nat) (hr : ∀ i : Fin N, i.val < r → ⊥ < x (rank x i)) (hrN : r ≤ N) : col (state w io v r) j = rounds x r := by
  induction r with
  | zero => rw [rounds_zero]; exact hx
  | succ r ih =>
    have ih := ih (fun i hi => hr i (Nat.lt_succ_of_lt hi)) (Nat.le_of_succ_le hrN)
    have hf : FirstMax (col (state w io v r) j) (rank x ⟨r, hrN⟩) := by
      rw [ih]; exact firstMax_rounds x ⟨r, hrN⟩ (hr ⟨r, hrN⟩ (Nat.lt_succ_self _))
    funext k
    rw [← rounds_succ x ⟨r, hrN⟩ k, ← ih]
    exact col_strike io _ _ j _ hio (argRow_eq w hw io _ _ j _ hio hf (topRow_eq _ j _ hf)) k

/-- Round `r` finds the value at the sort's place `r`, -/
theorem tops_apply (r : Fin N) (hr : ∀ i : Fin N, i ≤ r → ⊥ < x (rank x i)) : tops w io v r.val (ix2 0 j) = x (rank x r) := by
  have h := col_state w hw io v j hio x hx r.val (fun i hi => hr i (le_of_lt hi)) r.isLt.le
  have hf : FirstMax (col (state w io v r.val) j) (rank x r) := by rw [h]; exact firstMax_rounds x r (hr r le_rfl)
  rw [tops, topRow_eq _ j _ hf, h, rounds_rank]

/-- and picks the row at that place. -/
theorem picks_apply (r : Fin N) (hr : ∀ i : Fin N, i ≤ r → ⊥ < x (rank x i)) : picks w io v r.val (ix2 0 j) = num (rank x r) := by
  have h := col_state w hw io v j hio x hx r.val (fun i hi => hr i (le_of_lt hi)) r.isLt.le
  have hf : FirstMax (col (state w io v r.val) j) (rank x r) := by rw [h]; exact firstMax_rounds x r (hr r le_rfl)
  exact argRow_eq w hw io _ _ j _ hio hf (topRow_eq _ j _ hf)

end Rounds

/-! ## The sum of the two largest -/

/-- How many rows of each column are marked, as one row of floats. -/
def countRow (e : IVec (Blk N L) 1) : FVec Ideal (Blk 1 L) .f32 :=
  shapeCast (Blk 1 L) (multiReduction .add [0] (Cols L) (sitofp .f32 (extui 32 e (by decide)) : FVec Ideal (Blk N L) .f32) 0x00000000#32
    (reducesRows N L) (.inl rfl) rfl) (castsRow L)

/-- The sum of the two largest of each column: the maximum, and the maximum again where two rows or more attain it, or else the
    maximum of the rest. -/
def pairRow (v : FVec Ideal (Blk N L) .f32) : FVec Ideal (Blk 1 L) .f32 :=
  addf (topRow v) (select (cmpf .ogt (countRow (eqRow v (topRow v))) (broadcast (Blk 1 L) (Scalar.ofBits .f32 0x3F800000#32))) (topRow v)
    (topRow (select (eqRow v (topRow v)) (broadcast (Blk N L) (Scalar.ofBits .f32 0xFF800000#32)) v)))

theorem countRow_apply (e : IVec (Blk N L) 1) (j : Fin L) (s : Finset (Fin N))
    (he : ∀ k, e (ix2 k j) = BitVec.ofBool (decide (k ∈ s))) : countRow e (ix2 0 j) = ((s.card : ℝ) : EReal) := by
  unfold countRow
  rw [shapeCast_a_1a_apply]
  refine (Ideal.multiReduction_add_single _ _ (reducesRows N L) _ _ (ix1 j)).trans ?_
  have hval : ∀ k : Fin N, (sitofp .f32 (extui 32 e (by decide)) : FVec Ideal (Blk N L) .f32) ((reducesRows N L).lift (ix1 j) k)
      = if k ∈ s then 1 else 0 := by
    intro k
    rw [lift_row]
    show (((((e (ix2 k j)).setWidth 32).toInt : ℤ) : ℝ) : EReal) = _
    rw [he k]
    by_cases hk : k ∈ s <;> simp [hk]
  refine (Finset.sum_congr rfl fun k _ => hval k).trans ?_
  show (∑ k : Fin N, if k ∈ s then (1 : EReal) else 0) = _
  rw [Finset.sum_ite_mem, Finset.univ_inter, Finset.sum_const, nsmul_one]
  rfl

theorem pairRow_apply (v : FVec Ideal (Blk (N + 2) L) .f32) (j : Fin L) (x : Fin (N + 2) → EReal) (hx : col v j = x) :
    pairRow v (ix2 0 j) = x (rank x 0) + x (rank x 1) := by
  have hf : FirstMax (col v j) (rank x 0) := by rw [hx]; exact firstMax_rank_zero x
  have ht : topRow v (ix2 0 j) = x (rank x 0) := by rw [topRow_eq v j _ hf, hx]
  have he : ∀ k, eqRow v (topRow v) (ix2 k j) = BitVec.ofBool (decide (k ∈ Finset.univ.filter fun k => x k = x (rank x 0))) := by
    intro k
    rw [eqRow_apply, ht, hx]
    simp
  show topRow v (ix2 0 j) + Scalar.select (BitVec.ofBool (decide (Ideal.ofBits .f32 0x3F800000#32 < countRow (eqRow v (topRow v)) (ix2 0 j))))
    (topRow v (ix2 0 j)) (topRow (select (eqRow v (topRow v)) (broadcast (Blk (N + 2) L) (Scalar.ofBits .f32 0xFF800000#32)) v) (ix2 0 j)) = _
  rw [ht, countRow_apply _ j _ he, Ideal.ofBits_one_f32, WordCmp.select_decide]
  congr 1
  have h0 : rank x 0 ∈ Finset.univ.filter fun k => x k = x (rank x 0) := by simp
  split
  · next h =>
    have h1 : 1 < (Finset.univ.filter fun k => x k = x (rank x 0)).card := by exact_mod_cast h
    obtain ⟨k, hk, hne⟩ := Finset.exists_mem_ne h1 (rank x 0)
    exact (rank_one_of_tie x hne (Finset.mem_filter.mp hk).2).symm
  · next h =>
    have h1 : (Finset.univ.filter fun k => x k = x (rank x 0)).card ≤ 1 := by
      rw [not_lt] at h
      exact_mod_cast h
    have huniq : ∀ k, x k = x (rank x 0) → k = rank x 0 := fun k hk =>
      Finset.card_le_one.mp h1 k (by simp [hk]) _ h0
    have hval : ∀ k, col (select (eqRow v (topRow v)) (broadcast (Blk (N + 2) L) (Scalar.ofBits .f32 0xFF800000#32)) v) j k
        = if k = rank x 0 then ⊥ else x k := by
      intro k
      show Scalar.select (eqRow v (topRow v) (ix2 k j)) (Ideal.ofBits .f32 0xFF800000#32) (v (ix2 k j)) = _
      rw [he, WordCmp.select_decide, word_negInf, ← hx]
      refine if_congr ?_ rfl rfl
      rw [hx]
      simp only [Finset.mem_filter, Finset.mem_univ, true_and]
      exact ⟨huniq k, fun h => by rw [h]⟩
    rw [topRow_apply, fold_max_eq _ (rank x 1)]
    · rw [hval, if_neg]
      intro h
      exact absurd (rank_injective x h) (by simp [Fin.ext_iff])
    · intro k
      rw [hval, hval, if_neg (fun h => absurd (rank_injective x h) (by simp [Fin.ext_iff]))]
      split
      · exact bot_le
      · next h => exact le_rank_one x h

end Cert.Router

end
-- ==== Proof.Scores.lean ====
/-
  THE SCORES OF ONE TOKEN: the logistic function of the inner products of the token's hidden state with the rows of the weight matrix, and
  the scores with the bias added. A score is never negative, so a biased score is −∞ only where the bias is.
-/
module

public import Idealize.ShloMosaic.Lib.ValueIdx
public import Idealize.ShloMosaic.PureOps.Ideal.Laws

@[expose] public section

noncomputable section

namespace Cert.Router

open Idealize.ShloMosaic Idealize.ShloMosaic.ValueIdx

/-- The hidden states' type. -/
abbrev States := FVec Ideal (⟨3, ![4, 4096, 2048]⟩ : Shape) .f32
/-- The weight matrix's type. -/
abbrev Weights := FVec Ideal (⟨2, ![64, 2048]⟩ : Shape) .f32
/-- The bias's type. -/
abbrev Bias := FVec Ideal (⟨1, ![64]⟩ : Shape) .f32

/-- The hidden state of token `n`: the tokens are numbered batch by batch. -/
abbrev hidden (hs : States) (n : Fin 16384) (d : Fin 2048) : EReal :=
  hs (ix3 ⟨n.val / 4096, by omega⟩ ⟨n.val % 4096, Nat.mod_lt _ (by decide)⟩ d)

/-- The score of expert `k` for token `n`. -/
def score (hs : States) (w : Weights) (n : Fin 16384) (k : Fin 64) : EReal :=
  Ideal.div 1 (1 + Ideal.exp (-∑ d : Fin 2048, hidden hs n d * w (ix2 k d)))

/-- The biased score of expert `k` for token `n`. -/
def biased (hs : States) (w : Weights) (b : Bias) (n : Fin 16384) (k : Fin 64) : EReal := score hs w n k + b (ix1 k)

theorem exp_nonneg (x : EReal) : 0 ≤ Ideal.exp x := by
  induction x with
  | bot => exact le_of_eq rfl
  | top => exact le_top
  | coe r => exact EReal.coe_nonneg.mpr (Real.exp_pos r).le

theorem logistic_nonneg (x : EReal) : 0 ≤ Ideal.div 1 (1 + Ideal.exp x) := by
  have h : (1 : EReal) ≤ 1 + Ideal.exp x := le_add_of_nonneg_right (exp_nonneg x)
  have h0 : (1 + Ideal.exp x) ≠ 0 := fun e => by rw [e] at h; exact absurd h (by norm_num)
  unfold Ideal.div
  rw [if_neg h0, one_mul]
  exact EReal.inv_nonneg_of_nonneg (zero_le_one.trans h)

theorem score_nonneg (hs : States) (w : Weights) (n : Fin 16384) (k : Fin 64) : 0 ≤ score hs w n k := logistic_nonneg _

theorem bot_lt_biased (hs : States) (w : Weights) (b : Bias) (hb : ∀ k, ⊥ < b (ix1 k)) (n : Fin 16384) (k : Fin 64) :
    ⊥ < biased hs w b n k :=
  bot_lt_iff_ne_bot.mpr fun e => by
    rcases EReal.add_eq_bot_iff.mp e with h | h
    · exact absurd (score_nonneg hs w n k) (by rw [h]; exact not_le.mpr EReal.bot_lt_zero)
    · exact absurd (hb k) (by rw [h]; exact lt_irrefl _)

theorem biased_zero (hs : States) (w : Weights) (b : Bias) (hb : ∀ k, b (ix1 k) = 0) (n : Fin 16384) :
    biased hs w b n = score hs w n :=
  funext fun k => by unfold biased; rw [hb, add_zero]

end Cert.Router

end
-- ==== Proof.Conditions.lean ====
/-
  THE CONDITIONS ON THE BIAS, and the mask of the second value claim, read at an entry: the bias is 0 everywhere, the bias is above −∞
  everywhere; the mask selects no entry of the second result.
-/
module

public import proofs.«01_k».proof.Pre_zero_bias
public import proofs.«01_k».proof.Pre_bias_above_neg_inf
public import proofs.«01_k».proof.On_indices_only
public import proofs.«01_k».proof.Proof.Columns
public import proofs.«01_k».proof.Proof.Scores
public import Idealize.ShloMosaic.Lib.Pointwise

@[expose] public section

noncomputable section

namespace Cert.Router

open Idealize.ShloMosaic hiding ix1 ix2 ix3
open Idealize.ShloMosaic.ValueIdx

theorem facts_zero_bias : Cert.Pre_zero_bias.Facts := ⟨by decide⟩
theorem facts_bias_above : Cert.Pre_bias_above_neg_inf.Facts := ⟨by decide⟩
theorem facts_indices_only : Cert.On_indices_only.Facts := ⟨by decide⟩

/-- A decision printed as a bit that is set holds. -/
theorem of_bit {p : Prop} [Decidable p] (h : BitVec.ofBool (decide p) = 1#1) : p := by
  by_contra hp
  rw [decide_eq_false hp] at h
  exact absurd h (by decide)

variable (hs : States) (w : Weights) (b : Bias)

theorem zero_of_pre [Cert.Pre_zero_bias.Facts] (h : Cert.Pre_zero_bias.fn (F := Ideal) hs w b = fun _ => 1#1) (k : Fin 64) :
    b (ix1 k) = 0 := by
  have e : b (ix1 k) = Ideal.ofBits .f32 0x00000000#32 := of_bit (congrFun h (ix1 k))
  simpa [Ideal.ofBits, Ideal.ieee] using e

theorem above_of_pre [Cert.Pre_bias_above_neg_inf.Facts] (h : Cert.Pre_bias_above_neg_inf.fn (F := Ideal) hs w b = fun _ => 1#1)
    (k : Fin 64) : ⊥ < b (ix1 k) := by
  have e : Ideal.ofBits .f32 0xFF800000#32 < b (ix1 k) := of_bit (congrFun h (ix1 k))
  rwa [word_negInf] at e

theorem mask_weights [Cert.On_indices_only.Facts] (i : (⟨2, ![16384, 8]⟩ : Shape).Idx) :
    (Cert.On_indices_only.fn (F := Ideal) hs w b).2 i ≠ 1#1 :=
  fun h => (by decide : (0#1 : BitVec 1) ≠ 1#1) h

end Cert.Router

end
-- ==== Proof.Block.lean ====
/-
  WHAT ONE BLOCK COMPUTES: the kernel's printed payloads, folded back into the named steps of Columns.lean. `choice` is the block of biased
  scores, `groupsOf` the groups' scores, `masked` the biased scores with the groups that were not picked at −∞; the two output blocks are
  the experts picked in eight rounds over `masked` and their scores, scaled.
-/
module

public import proofs.«01_k».proof.Proof.Columns
public import proofs.«01_k».proof.Proof.Gen.KernelIdeal.Frame

@[expose] public section

set_option maxRecDepth 16384

noncomputable section

namespace Cert.Router

open Idealize.ShloMosaic Idealize.ShloMosaic.ValueIdx Cert.KernelIdeal Cert.KernelIdeal.Gen

/-! ## The steps over a whole block -/

theorem slicesGroup (g : Fin 8) : S64x2048.Slices ![8 * g.val, 0] S8x2048 := by revert g; decide
theorem slicesMark (g : Fin 8) : S8x2048.Slices ![g.val, 0] S1x2048 := by revert g; decide

/-- Rows `8 g` to `8 g + 7`, a group's. -/
def groupRows (v : FVec Ideal S64x2048 .f32) (g : Fin 8) : FVec Ideal S8x2048 .f32 :=
  extractStridedSlice S8x2048 ![8 * g.val, 0] v (slicesGroup g)

/-- Eight rows stacked. -/
def stack (f : Fin 8 → FVec Ideal S1x2048 .f32) : FVec Ideal S8x2048 .f32 :=
  concatenate S8x2048 0 (List.ofFn fun g => ⟨S1x2048, f g⟩)
    concatenates_S1x2048_S1x2048_S1x2048_S1x2048_S1x2048_S1x2048_S1x2048_S1x2048_S8x2048_d0

/-- Eight blocks of eight rows stacked. -/
def stackBlocks (f : Fin 8 → IVec S8x2048 1) : IVec S64x2048 1 :=
  concatenate S64x2048 0 (List.ofFn fun g => ⟨S8x2048, f g⟩)
    concatenates_S8x2048_S8x2048_S8x2048_S8x2048_S8x2048_S8x2048_S8x2048_S8x2048_S64x2048_d0

/-- The groups' scores: the sum of the two largest of each. -/
def groupsOf (v : FVec Ideal S64x2048 .f32) : FVec Ideal S8x2048 .f32 := stack fun g => pairRow (groupRows v g)

/-- The group numbers. -/
abbrev groupNums : FVec Ideal S8x2048 .f32 := rowNums 8 2048 iota_S8x2048_d0_w32
/-- The expert numbers. -/
abbrev expertNums : FVec Ideal S64x2048 .f32 := rowNums 64 2048 iota_S64x2048_d0_w32

/-- The group picked in round `r`. -/
abbrev groupPick (v : FVec Ideal S64x2048 .f32) (r : Nat) : FVec Ideal S1x2048 .f32 := picks 0x41000000#32 groupNums (groupsOf v) r

/-- Where a group is one of the first `r` picked. -/
def picked (v : FVec Ideal S64x2048 .f32) : Nat → IVec S8x2048 1
  | 0 => broadcast S8x2048 0#1
  | r + 1 => ori (picked v r) (eqRow groupNums (groupPick v r))

/-- A group's mark, over the group's eight experts. -/
def spread (e : IVec S8x2048 1) (g : Fin 8) : IVec S8x2048 1 :=
  broadcastTo S8x2048 (shapeCast S1x2048 (extractStridedSlice S1x2048 ![g.val, 0] e (slicesMark g)) shapeCasts_S1x2048_S1x2048)
    broadcasts_S1x2048_S8x2048

/-- The biased scores of the four picked groups, −∞ elsewhere. -/
def masked (v : FVec Ideal S64x2048 .f32) : FVec Ideal S64x2048 .f32 :=
  select (stackBlocks (spread (picked v 4))) v (broadcast S64x2048 (Scalar.ofBits .f32 0xFF800000#32))

/-- The expert picked in round `r`, and its biased score. -/
abbrev expertPick (v : FVec Ideal S64x2048 .f32) (r : Nat) : FVec Ideal S1x2048 .f32 := picks 0x42800000#32 expertNums (masked v) r
abbrev expertTop (v : FVec Ideal S64x2048 .f32) (r : Nat) : FVec Ideal S1x2048 .f32 := tops 0x42800000#32 expertNums (masked v) r

/-- The eight picked experts. -/
def pickedExperts (v : FVec Ideal S64x2048 .f32) : IVec S8x2048 32 := fptosi 32 (stack fun r => expertPick v r.val)

/-- Scores over their sum (and a small constant), times a constant. -/
def scaled (v : FVec Ideal S8x2048 .f32) : FVec Ideal S8x2048 .f32 :=
  mulf (divf v (broadcastTo S8x2048 (addf (shapeCast S1x2048
    (multiReduction .add [0] S2048 v 0x00000000#32 reduces_S8x2048_S2048 (.inl rfl) rfl) shapeCasts_S2048_S1x2048)
    (broadcast S1x2048 (Scalar.ofBits .f32 0x1E3CE508#32))) broadcasts_S1x2048_S8x2048))
    (broadcast S8x2048 (Scalar.ofBits .f32 0x40200000#32))

/-- The eight picked experts' scores, scaled. -/
def pickedWeights (v : FVec Ideal S64x2048 .f32) : FVec Ideal S8x2048 .f32 := scaled (stack fun r => expertTop v r.val)

/-! ## The printed text folds back -/

section Printed

variable (x0 : Vec Ideal S2048x2048 .f32) (x1 : Vec Ideal S2048x64 .f32) (x2 : Vec Ideal S64x1 .f32)

/-- The biased scores. -/
abbrev choice : FVec Ideal S64x2048 .f32 := k0_pay59 x0 x1 x2

theorem pay72_eq : k0_pay72 x0 x1 x2 = picked (choice x0 x1 x2) 2 := rfl
theorem pay73_eq : k0_pay73 x0 x1 x2 = state 0x41000000#32 groupNums (groupsOf (choice x0 x1 x2)) 2 := rfl
theorem pay74_eq : k0_pay74 x0 x1 x2 = eqRow (state 0x41000000#32 groupNums (groupsOf (choice x0 x1 x2)) 2)
    (tops 0x41000000#32 groupNums (groupsOf (choice x0 x1 x2)) 2) := rfl

theorem pay75_eq : k0_pay75 x0 x1 x2 = masked (choice x0 x1 x2) := by
  rw [k0_pay75, pay72_eq, pay73_eq, pay74_eq]
  rfl

theorem pay77_eq : k0_pay77 x0 x1 x2 = eqRow (masked (choice x0 x1 x2)) (topRow (masked (choice x0 x1 x2))) := by
  rw [← pay75_eq]
  rfl

theorem pay78_eq : k0_pay78 x0 x1 x2 = state 0x42800000#32 expertNums (masked (choice x0 x1 x2)) 4 := by
  rw [k0_pay78, pay75_eq, pay77_eq]
  rfl

theorem out_experts : out0_3 x0 x1 x2 = View.canon [⟨r0_3, pickedExperts (choice x0 x1 x2)⟩] := by
  rw [out0_3, pay75_eq, pay77_eq, pay78_eq]
  rfl

theorem out_weights : out0_4 x0 x1 x2 = View.canon [⟨r0_3, pickedWeights (choice x0 x1 x2)⟩] := by
  have h : k0_pay35 (k0_pay59 x0 x1 x2) (k0_pay71 x0 x1 x2) (k0_pay72 x0 x1 x2) (k0_pay73 x0 x1 x2) (k0_pay74 x0 x1 x2)
      (Scalar.ofBits .f32 0x41000000#32) = topRow (k0_pay75 x0 x1 x2) := rfl
  rw [out0_4, h, pay75_eq, pay77_eq, pay78_eq]
  rfl

end Printed

end Cert.Router

end
-- ==== Proof.Route.lean ====
/-
  THE ROUTE OF ONE TOKEN: from the token's 64 biased scores, the groups' scores (the sum of the two largest of each group of eight), the four
  best groups, the eight best experts among them, and the eight weights. Both programs are shown to compute this.
-/
module

public import proofs.«01_k».proof.Proof.Selection
public import Idealize.ShloMosaic.PureOps.Ideal.Laws

@[expose] public section

noncomputable section

namespace Cert.Router

open Idealize.ShloMosaic

variable (x : Fin 64 → EReal)

/-- Expert `i` of group `g`. -/
abbrev member (g i : Fin 8) : Fin 64 := ⟨8 * g.val + i.val, by omega⟩
/-- The group of an expert. -/
abbrev groupIx (k : Fin 64) : Fin 8 := ⟨k.val / 8, by omega⟩

theorem groupIx_member (g i : Fin 8) : groupIx (member g i) = g := Fin.ext (by show (8 * g.val + i.val) / 8 = g.val; omega)

/-- A group's eight biased scores. -/
def inGroup (g : Fin 8) : Fin 8 → EReal := fun i => x (member g i)

/-- A group's score. -/
def groupScore : Fin 8 → EReal := fun g => inGroup x g (rank (inGroup x g) 0) + inGroup x g (rank (inGroup x g) 1)

/-- `g` is one of the `r` best groups. -/
def Best (r : Nat) (g : Fin 8) : Prop := ∃ q : Fin 8, q.val < r ∧ rank (groupScore x) q = g

instance (r : Nat) (g : Fin 8) : Decidable (Best x r g) := Nat.decidableExistsFin _

/-- The biased scores of the four best groups, −∞ elsewhere. -/
def kept : Fin 64 → EReal := fun k => if Best x 4 (groupIx k) then x k else ⊥

/-- The experts in the order of `kept`. -/
abbrev place (r : Fin 8) : Fin 64 := r.castLE (by decide)

/-- The expert picked at place `r`. -/
def expert (r : Fin 8) : Fin 64 := rank (kept x) (place r)

/-- The weight at place `r`, from the scores `s`. -/
def weight (s : Fin 64 → EReal) (r : Fin 8) : EReal :=
  Ideal.div (s (expert x r)) ((∑ q : Fin 8, s (expert x q)) + Ideal.ofBits .f32 0x1E3CE508#32) * Ideal.ofBits .f32 0x40200000#32

/-- One more best group. -/
theorem best_succ (r g : Fin 8) : Best x (r.val + 1) g ↔ Best x r.val g ∨ g = rank (groupScore x) r := by
  constructor
  · rintro ⟨q, hq, h⟩
    rcases Nat.lt_succ_iff_lt_or_eq.mp hq with h' | h'
    · exact Or.inl ⟨q, h', h⟩
    · exact Or.inr (by rw [← h, Fin.ext h'])
  · rintro (⟨q, hq, h⟩ | h)
    · exact ⟨q, Nat.lt_succ_of_lt hq, h⟩
    · exact ⟨r, Nat.lt_succ_self _, h.symm⟩

section AboveNegInf

variable (hx : ∀ k, ⊥ < x k)

include hx

/-- With the biased scores above −∞ so are the groups' scores, -/
theorem bot_lt_groupScore (g : Fin 8) : ⊥ < groupScore x g := EReal.bot_lt_add_iff.mpr ⟨hx _, hx _⟩

/-- and the eight picked values: the best group's eight experts fill eight places. -/
theorem bot_lt_kept (r : Fin 8) : ⊥ < kept x (expert x r) := by
  refine lt_rank (kept x) ⊥ (Finset.univ.image (member (rank (groupScore x) 0))) ?_ (place r) ?_
  · intro k hk
    obtain ⟨i, -, rfl⟩ := Finset.mem_image.mp hk
    unfold kept
    rw [groupIx_member, if_pos ⟨0, by decide, rfl⟩]
    exact hx _
  · rw [Finset.card_image_of_injective _ fun i k h => ?_, Finset.card_univ, Fintype.card_fin]
    · exact r.isLt
    · have := Fin.ext_iff.mp h
      exact Fin.ext (by simpa using this)

/-- So the picked values are the experts' biased scores. -/
theorem kept_expert (r : Fin 8) : kept x (expert x r) = x (expert x r) := by
  have h := bot_lt_kept x hx r
  unfold kept at h ⊢
  split
  · rfl
  · next h' => rw [if_neg h'] at h; exact absurd h (lt_irrefl _)

end AboveNegInf

end Cert.Router

end
-- ==== Proof.BlockColumn.lean ====
/-
  ONE BLOCK, ONE TOKEN: the two output blocks of Block.lean read at one column are the route (Route.lean) of that column of biased scores,
  provided these lie above −∞.
-/
module

public import proofs.«01_k».proof.Proof.Block
public import proofs.«01_k».proof.Proof.Route

@[expose] public section

set_option maxRecDepth 16384

noncomputable section

namespace Cert.Router

open Idealize.ShloMosaic Idealize.ShloMosaic.ValueIdx Cert.KernelIdeal Cert.KernelIdeal.Gen

/-! ## Rows stacked -/

theorem stack_apply (f : Fin 8 → FVec Ideal S1x2048 .f32) (r : Fin 8) (j : Fin 2048) : stack f (ix2 r j) = f r (ix2 0 j) := by
  unfold stack
  refine concatenate_ofFn_apply (t := S8x2048) (s₁ := S1x2048) 0 f _ rfl 1 rfl (ix2 r j) r (Nat.div_one _) (ix2 0 j) ?_ ?_
  · exact (Nat.mod_one _).symm
  · intro b hb
    match b with
    | ⟨0, _⟩ => exact absurd rfl hb
    | ⟨1, _⟩ => rfl

theorem stackBlocks_apply (f : Fin 8 → IVec S8x2048 1) (k : Fin 64) (j : Fin 2048) :
    stackBlocks f (ix2 k j) = f (groupIx k) (ix2 ⟨k.val % 8, Nat.mod_lt _ (by decide)⟩ j) := by
  unfold stackBlocks
  refine concatenate_ofFn_apply (t := S64x2048) (s₁ := S8x2048) 0 f _ rfl 8 rfl (ix2 k j) (groupIx k) rfl (ix2 ⟨k.val % 8, Nat.mod_lt _ (by decide)⟩ j) rfl ?_
  intro b hb
  match b with
  | ⟨0, _⟩ => exact absurd rfl hb
  | ⟨1, _⟩ => rfl

theorem sixtyFour_le : (((64 : Nat) : ℝ) : EReal) ≤ Ideal.ofBits .f32 0x42800000#32 := by
  rw [word_sixtyFour]; exact le_of_eq (by norm_num)

variable (v : FVec Ideal S64x2048 .f32) (j : Fin 2048)

/-! ## The groups -/

theorem col_groupRows (g : Fin 8) : col (groupRows v g) j = inGroup (col v j) g := by
  funext i
  show extractStridedSlice S8x2048 ![8 * g.val, 0] v (slicesGroup g) (ix2 i j) = v (ix2 (member g i) j)
  refine extractStridedSlice_apply _ v (slicesGroup g) _ _ fun a => ?_
  match a with
  | ⟨0, _⟩ => rfl
  | ⟨1, _⟩ => exact (Nat.zero_add _).symm

theorem col_groupsOf : col (groupsOf v) j = groupScore (col v j) := by
  funext g
  show stack (fun g => pairRow (groupRows v g)) (ix2 g j) = _
  rw [stack_apply, pairRow_apply (N := 6) (groupRows v g) j _ (col_groupRows v j g)]
  rfl

theorem groupNums_apply (k : Fin 8) : groupNums (ix2 k j) = num k := rowNums_apply _ (by decide) k j
theorem expertNums_apply (k : Fin 64) : expertNums (ix2 k j) = num k := rowNums_apply _ (by decide) k j

variable (hv : ∀ k, ⊥ < col v j k)

include hv

theorem groupPick_apply (r : Fin 8) : groupPick v r.val (ix2 0 j) = num (rank (groupScore (col v j)) r) :=
  picks_apply 0x41000000#32 (by rw [word_eight]; exact le_of_eq (by norm_num)) _ _ j (groupNums_apply j) _ (col_groupsOf v j) r
    fun _ _ => bot_lt_groupScore _ hv _

theorem picked_apply (r : Nat) (hr : r ≤ 8) (g : Fin 8) : picked v r (ix2 g j) = BitVec.ofBool (decide (Best (col v j) r g)) := by
  induction r with
  | zero =>
    have : ¬ Best (col v j) 0 g := fun ⟨q, hq, _⟩ => absurd hq (Nat.not_lt_zero _)
    rw [decide_eq_false this]
    rfl
  | succ r ih =>
    show picked v r (ix2 g j) ||| eqRow groupNums (groupPick v r) (ix2 g j) = _
    rw [ih (Nat.le_of_succ_le hr), eqRow_num _ _ j _ g (groupNums_apply j) (groupPick_apply v j hv ⟨r, hr⟩),
      decide_eq_decide.mpr (best_succ (col v j) ⟨r, hr⟩ g), Bool.decide_or]
    generalize decide (Best (col v j) r g) = a
    generalize decide (g = _) = b
    revert a b
    decide

theorem col_masked : col (masked v) j = kept (col v j) := by
  funext k
  show Scalar.select (stackBlocks (spread (picked v 4)) (ix2 k j)) (v (ix2 k j)) (Ideal.ofBits .f32 0xFF800000#32) = _
  have hs : stackBlocks (spread (picked v 4)) (ix2 k j) = BitVec.ofBool (decide (Best (col v j) 4 (groupIx k))) := by
    rw [stackBlocks_apply, spread, broadcastTo_1b_ab_apply, shapeCast_self, ← picked_apply v j hv 4 (by decide)]
    refine extractStridedSlice_apply _ (picked v 4) (slicesMark (groupIx k)) _ _ fun a => ?_
    match a with
    | ⟨0, _⟩ => rfl
    | ⟨1, _⟩ => exact (Nat.zero_add _).symm
  rw [hs, WordCmp.select_decide, word_negInf]
  unfold kept
  exact if_congr Iff.rfl rfl rfl

/-! ## The experts and the weights -/

theorem places_above (r : Fin 8) (i : Fin 64) (hi : i ≤ place r) : ⊥ < kept (col v j) (rank (kept (col v j)) i) :=
  lt_of_lt_of_le (bot_lt_kept _ hv r) (rank_antitone _ hi)

theorem expertPick_apply (r : Fin 8) : expertPick v r.val (ix2 0 j) = num (expert (col v j) r) :=
  picks_apply 0x42800000#32 sixtyFour_le _ _ j (expertNums_apply j) _ (col_masked v j hv) (place r) (places_above v j hv r)

theorem expertTop_apply (r : Fin 8) : expertTop v r.val (ix2 0 j) = col v j (expert (col v j) r) :=
  (tops_apply 0x42800000#32 sixtyFour_le _ _ j (expertNums_apply j) _ (col_masked v j hv) (place r) (places_above v j hv r)).trans
    (kept_expert _ hv r)

/-- The picked experts of a token are its route's. -/
theorem pickedExperts_apply (r : Fin 8) : pickedExperts v (ix2 r j) = BitVec.ofNat 32 (expert (col v j) r).val := by
  show Ideal.fptosi 32 (stack (fun r => expertPick v r.val) (ix2 r j)) = _
  rw [stack_apply, expertPick_apply v j hv, fptosi_num (by decide)]

/-- The weights are the route's, from the BIASED scores. -/
theorem pickedWeights_apply (r : Fin 8) : pickedWeights v (ix2 r j) = weight (col v j) (col v j) r := by
  have hs : ∀ q, stack (fun r => expertTop v r.val) (ix2 q j) = col v j (expert (col v j) q) := fun q => by
    rw [stack_apply, expertTop_apply v j hv]
  show Ideal.div (stack (fun r => expertTop v r.val) (ix2 r j)) (broadcastTo S8x2048 _ broadcasts_S1x2048_S8x2048 (ix2 r j))
    * Ideal.ofBits .f32 0x40200000#32 = _
  rw [hs, broadcastTo_1b_ab_apply]
  show Ideal.div _ (shapeCast S1x2048 _ shapeCasts_S2048_S1x2048 (ix2 0 j) + Ideal.ofBits .f32 0x1E3CE508#32) * _ = _
  rw [shapeCast_a_1a_apply]
  unfold weight
  congr 3
  refine (Ideal.multiReduction_add_single _ _ reduces_S8x2048_S2048 _ _ (ix1 j)).trans ?_
  refine Finset.sum_congr rfl fun q _ => ?_
  exact (congrArg _ (lift_row reduces_S8x2048_S2048 j q)).trans (hs q)

end Cert.Router

end
-- ==== Proof.BlockScores.lean ====
/-
  A BLOCK'S BIASED SCORES: column `j` of the block of biased scores holds, expert by expert, the logistic function of the inner product of
  row `j` of the block of hidden states with the expert's weights, plus the expert's bias.
-/
module

public import proofs.«01_k».proof.Proof.Block
public import Idealize.ShloMosaic.Lib.Pointwise

@[expose] public section

set_option maxRecDepth 16384

noncomputable section

namespace Cert.Router

open Idealize.ShloMosaic hiding ix1 ix2 ix3
open Idealize.ShloMosaic.ValueIdx Cert.KernelIdeal Cert.KernelIdeal.Gen

/-- The offsets of an access to a whole block. -/
theorem whole_offsets : (![0, 0] : Fin 2 → Nat) = fun _ => 0 := funext fun a => by fin_cases a <;> rfl

variable (x0 : FVec Ideal S2048x2048 .f32) (x1 : FVec Ideal S2048x64 .f32) (x2 : FVec Ideal S64x1 .f32)

theorem choice_apply (k : Fin 64) (j : Fin 2048) : choice x0 x1 x2 (ix2 k j)
    = Ideal.div 1 (1 + Ideal.exp (-∑ d : Fin 2048, x0 (ix2 j d) * x1 (ix2 d k))) + x2 (ix2 k 0) := by
  unfold choice k0_pay59 k0_pay2
  rw [View.ld_unit_zero whole_offsets, View.ld_unit_zero whole_offsets, View.ld_unit_zero whole_offsets]
  pointwise
  rfl

end Cert.Router

end
-- ==== Proof.Array.lean ====
/-
  WHAT THE KERNEL'S ARRAYS HOLD AFTER ITS RUN: entry (`r`, `n`) of the first output array is the expert token `n` picks in round `r`, of the
  second its weight. Each grid point writes the columns of its 2048 tokens, from the hidden states of those tokens and the whole weights.
-/
module

public import proofs.«01_k».proof.Proof.BlockColumn
public import proofs.«01_k».proof.Proof.BlockScores
public import proofs.«01_k».proof.Proof.Scores
public import Idealize.ShloMosaic.Lib.Pipeline.ValueKit.Geometry

@[expose] public section

set_option maxRecDepth 16384

noncomputable section

namespace Cert.Router

open Idealize.ShloMosaic hiding ix1 ix2 ix3
open Idealize.ShloMosaic.ValueIdx Idealize.SL.Sem Cert.KernelIdeal Cert.KernelIdeal.Gen

variable (m : (ℓ : Loc nD τ sig) → Buf (Elt Ideal) ℓ) (c : Dev nD)

/-! ## The arguments, and the arrays the grid reads -/

/-- The run's hidden states. -/
abbrev argStates : States := m ((c.tc : Thread nD τ).loc main_arg0)
/-- The run's weight matrix. -/
abbrev argWeights : Weights := m ((c.tc : Thread nD τ).loc main_arg1)
/-- The run's bias. -/
abbrev argBias : Bias := m ((c.tc : Thread nD τ).loc main_arg2)

theorem rows_eq : V m c main_v0 = shapeCast S16384x2048 (argStates m c) shapeCasts_S4x4096x2048_S16384x2048 := by
  simp only [V, V0, hostOps0, List.flatten_cons, List.flatten_nil, List.append_nil]
  after_results_simp <;> rfl

theorem columns_eq : V m c main_v1 = transpose S2048x64 [1, 0] (argWeights m c) transposes_S64x2048_S2048x64_1_0 := by
  simp only [V, V0, hostOps0, List.flatten_cons, List.flatten_nil, List.append_nil]
  after_results_simp <;> rfl

theorem bias_eq : V m c main_v2 = shapeCast S64x1 (argBias m c) shapeCasts_S64_S64x1 := by
  simp only [V, V0, hostOps0, List.flatten_cons, List.flatten_nil, List.append_nil]
  after_results_simp <;> rfl

theorem rows_apply (n : Fin 16384) (d : Fin 2048) : V m c main_v0 (ix2 n d) = hidden (argStates m c) n d := by
  rw [rows_eq]
  pointwise
  rfl

theorem columns_apply (d : Fin 2048) (k : Fin 64) : V m c main_v1 (ix2 d k) = argWeights m c (ix2 k d) := by
  rw [columns_eq]
  pointwise
  rfl

theorem bias_apply (k : Fin 64) : V m c main_v2 (ix2 k 0) = argBias m c (ix1 k) := by
  rw [bias_eq]
  pointwise
  rfl

/-! ## The blocks of a grid point -/

theorem rows_index : ∀ t : Fin cfg0.N, win0_0.index t = ![t.val, 0] := (by decide +kernel : ∀ t : Fin grid0.N, _)
theorem columns_index : ∀ t : Fin cfg0.N, win0_1.index t = ![0, 0] := (by decide +kernel : ∀ t : Fin grid0.N, _)
theorem bias_index : ∀ t : Fin cfg0.N, win0_2.index t = ![0, 0] := (by decide +kernel : ∀ t : Fin grid0.N, _)
theorem experts_index : ∀ t : Fin cfg0.N, win0_3.index t = ![0, t.val] := (by decide +kernel : ∀ t : Fin grid0.N, _)
theorem weights_index : ∀ t : Fin cfg0.N, win0_4.index t = ![0, t.val] := (by decide +kernel : ∀ t : Fin grid0.N, _)

/-- The token that column `j` of grid point `t` is for. -/
abbrev token (t : Fin cfg0.N) (j : Fin 2048) : Fin 16384 := ⟨t.val * 2048 + j.val, by have h : t.val < 8 := t.isLt; omega⟩

theorem rows_block (t : Fin cfg0.N) (j d : Fin 2048) : iblk m c 0 t (ix2 j d) = hidden (argStates m c) (token t j) d := by
  rw [← rows_apply]
  blk_simp [iblk]
  refine congrArg (V m c main_v0) ?_
  blk_ext [rows_index]

theorem columns_block (t : Fin cfg0.N) (d : Fin 2048) (k : Fin 64) : iblk m c 1 t (ix2 d k) = argWeights m c (ix2 k d) := by
  rw [← columns_apply]
  blk_simp [iblk]
  refine congrArg (V m c main_v1) ?_
  blk_ext [columns_index]

theorem bias_block (t : Fin cfg0.N) (k : Fin 64) : iblk m c 2 t (ix2 k 0) = argBias m c (ix1 k) := by
  rw [← bias_apply]
  blk_simp [iblk]
  refine congrArg (V m c main_v2) ?_
  blk_ext [bias_index]

/-- Grid point `t`'s block of biased scores. -/
abbrev choiceAt (t : Fin cfg0.N) : FVec Ideal S64x2048 .f32 := choice (iblk m c 0 t) (iblk m c 1 t) (iblk m c 2 t)

/-- The biased scores of token `n` of the run. -/
abbrev biasedAt (n : Fin 16384) : Fin 64 → EReal := biased (argStates m c) (argWeights m c) (argBias m c) n

theorem col_choiceAt (t : Fin cfg0.N) (j : Fin 2048) : col (choiceAt m c t) j = biasedAt m c (token t j) := funext fun k => by
  refine (choice_apply (iblk m c 0 t) (iblk m c 1 t) (iblk m c 2 t) k j).trans ?_
  rw [bias_block m c t k]
  simp only [rows_block m c t, columns_block m c t]
  rfl

/-! ## The output arrays -/

/-- The picked experts, round by round over the tokens. -/
def expertsArray : IVec S8x16384 32 := fun i => BitVec.ofNat 32 (expert (biasedAt m c (i 1)) (i 0)).val

/-- The weights, round by round over the tokens. -/
def weightsArray : FVec Ideal S8x16384 .f32 := fun i => weight (biasedAt m c (i 1)) (biasedAt m c (i 1)) (i 0)

variable (hb : ∀ k, ⊥ < argBias m c (ix1 k))
include hb

theorem bot_lt_choiceAt (t : Fin cfg0.N) (j : Fin 2048) (k : Fin 64) : ⊥ < col (choiceAt m c t) j k := by
  rw [col_choiceAt]
  exact bot_lt_biased _ _ _ hb _ k

theorem experts_final : (dats m 0 c).arrAt 3 cfg0.N = expertsArray m c := by
  refine (dats m 0 c).arrAt_eq_of_covers 3 _ (by decide +kernel) fun t _ y => ?_
  blk_simp
  obtain ⟨r, j, rfl⟩ : ∃ (r : Fin 8) (j : Fin 2048), y = ix2 r j := ⟨y 0, y 1, ValueIdx.eq_ix2 y⟩
  rw [after0_3, out_experts, View.canon_unit_zero whole_offsets, pickedExperts_apply _ j (bot_lt_choiceAt m c hb t j), col_choiceAt]
  have e : (win0_3.blk t).view.emb (ix2 r j) = ix2 r (token t j) := by blk_ext [experts_index]
  rw [e]
  rfl

theorem weights_final : (dats m 0 c).arrAt 4 cfg0.N = weightsArray m c := by
  refine (dats m 0 c).arrAt_eq_of_covers 4 _ (by decide +kernel) fun t _ y => ?_
  blk_simp
  obtain ⟨r, j, rfl⟩ : ∃ (r : Fin 8) (j : Fin 2048), y = ix2 r j := ⟨y 0, y 1, ValueIdx.eq_ix2 y⟩
  rw [after0_4, out_weights, View.canon_unit_zero whole_offsets, pickedWeights_apply _ j (bot_lt_choiceAt m c hb t j), col_choiceAt]
  have e : (win0_4.blk t).view.emb (ix2 r j) = ix2 r (token t j) := by blk_ext [weights_index]
  rw [e]
  rfl

end Cert.Router

end
-- ==== Proof.KernelRun.lean ====
/-
  THE KERNEL'S RUN: every run of the kernel ends with its two results at the transposes of the arrays of Array.lean, token by token over the
  rounds, and its arguments unchanged.
-/
module

public import proofs.«01_k».proof.Proof.Array

@[expose] public section

set_option maxRecDepth 16384

noncomputable section

namespace Cert.Router

open Idealize.ShloMosaic hiding ix1 ix2 ix3
open Idealize.ShloMosaic.ValueIdx Idealize.SL.Sem Cert.KernelIdeal Cert.KernelIdeal.Gen

variable (m : (ℓ : Loc nD τ sig) → Buf (Elt Ideal) ℓ) (ρ : Dev nD → PrngReg)

/-- The first result after the lines that follow the grid: the first output array, transposed. -/
theorem tail_experts (c : Dev nD) : Pipeline.afterTail₀ cfgs (dats m) 0 (V0 m) [hostOps1] c main_v4
    = transpose S16384x8 [1, 0] ((dats m 0 c).arrAt 3 cfg0.N) transposes_S8x16384_S16384x8_1_0 := by
  unfold Pipeline.afterTail₀
  have h := Pipeline.withArrays_arr cfg0.spec (by decide +kernel) c (V0 m c) (fun w => (dats m 0 c).arrAt w cfg0.N) 3
  rw [← h]
  simp only [hostOps1, List.flatten_cons, List.flatten_nil, List.append_nil]
  after_results_simp <;> rfl

/-- The second result: the second output array, transposed. -/
theorem tail_weights (c : Dev nD) : Pipeline.afterTail₀ cfgs (dats m) 0 (V0 m) [hostOps1] c main_v5
    = transpose S16384x8 [1, 0] ((dats m 0 c).arrAt 4 cfg0.N) transposes_S8x16384_S16384x8_1_0 := by
  unfold Pipeline.afterTail₀
  have h := Pipeline.withArrays_arr cfg0.spec (by decide +kernel) c (V0 m c) (fun w => (dats m 0 c).arrAt w cfg0.N) 4
  rw [← h]
  simp only [hostOps1, List.flatten_cons, List.flatten_nil, List.append_nil]
  after_results_simp <;> rfl

/-- The kernel's first result. -/
def expertsOf (c : Dev nD) : IVec S16384x8 32 := transpose S16384x8 [1, 0] (expertsArray m c) transposes_S8x16384_S16384x8_1_0
/-- The kernel's second result. -/
def weightsOf (c : Dev nD) : FVec Ideal S16384x8 .f32 := transpose S16384x8 [1, 0] (weightsArray m c) transposes_S8x16384_S16384x8_1_0

theorem expertsOf_apply (c : Dev nD) (n : Fin 16384) (r : Fin 8) :
    expertsOf m c (ix2 n r) = BitVec.ofNat 32 (expert (biasedAt m c n) r).val := by
  unfold expertsOf
  pointwise
  rfl

theorem weightsOf_apply (c : Dev nD) (n : Fin 16384) (r : Fin 8) :
    weightsOf m c (ix2 n r) = weight (biasedAt m c n) (biasedAt m c n) r := by
  unfold weightsOf
  pointwise
  rfl

/-- The run, for a bias that is never −∞. -/
theorem kernel_run (hb : ∀ c k, ⊥ < argBias m c (ix1 k)) :
    θ_run defs (onTc (τ := τ) (main (F := Ideal))) ⟨m, fun _ => 0, ρ⟩ fun r => ∀ c : Dev nD,
      r.2.mem ((c.tc : Thread nD τ).loc main_v4) = expertsOf m c
      ∧ r.2.mem ((c.tc : Thread nD τ).loc main_v5) = weightsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c =>
      ⟨((h.1 c).2 main_v4 (Pipeline.mem_restRefs_of main_v4 (by decide) (by decide))).trans
          ((tail_experts m c).trans (by rw [experts_final m c (hb c)]; rfl)),
        ((h.1 c).2 main_v5 (Pipeline.mem_restRefs_of main_v5 (by decide) (by decide))).trans
          ((tail_weights m c).trans (by rw [weights_final m c (hb c)]; rfl)),
        h.2 c⟩)
    (θ_run_and (run_main m ρ) (unchanged m ρ))

end Cert.Router

end
-- ==== Proof.HostSteps.lean ====
/-
  TWO STEPS OF THE REFERENCE read at an index, over the extended reals: a `top_k` along an axis takes the places of `rank`, and a gather along
  the rows of a matrix (one index list a row) reads the entry the index names.
-/
module

public import proofs.«01_k».proof.Proof.Selection
public import Idealize.ShloMosaic.Lib.ValueLayout
public import Idealize.ShloMosaic.Lib.Pipeline.Value
public import Idealize.ShloMosaic.PureOps.Ideal.Laws

@[expose] public section

noncomputable section

namespace Cert.Router

open Idealize.ShloMosaic Idealize.ShloMosaic.ValueIdx

/-! ## `top_k` -/

/-- The values along axis `d` through index `i`. -/
def lane {s : Shape} {α : Type} (x : s.Idx → α) (d : Fin s.rank) (i : s.Idx) : Fin (s.size d) → α := fun k => x (i.along d k)

theorem sorted_larger {n : Nat} (y : Fin n → EReal) :
    sortedFrom (fun k k' => FloatOps.cmpfTotal (F := Ideal) (φ := .f32) .gt (y k) (y k') == 1#1) = rank y := by
  have h : (fun k k' => FloatOps.cmpfTotal (F := Ideal) (φ := .f32) .gt (y k) (y k') == 1#1) = larger y := by
    funext k k'
    show (BitVec.ofBool (decide (y k' < y k)) == 1#1) = decide (y k' < y k)
    generalize decide (y k' < y k) = b
    revert b
    decide
  funext r
  rw [h]
  rfl

section TopK

variable {s t : Shape} (d : Fin s.rank) (x : FVec Ideal s .f32) (h : s.Slices (fun _ => 0) t) (j : t.Idx) (i : s.Idx)
  (hi : ∀ a : Fin s.rank, (i a).val = (j (a.cast h.1.symm)).val)

include hi

/-- The values of a `top_k`, -/
theorem topK_value : (Host.topK t d.val (FloatOps.cmpfTotal .gt) x h).1 j = lane x d i (rank (lane x d i) (i d)) := by
  refine (extractStridedSlice_apply _ _ h j i fun a => (hi a).trans (Nat.zero_add _).symm).trans ?_
  unfold Host.sort2
  rw [dif_pos d.isLt]
  exact congrArg (fun f => lane x d i (f (i d))) (sorted_larger (lane x d i))

/-- and its indices. -/
theorem topK_index : (Host.topK t d.val (FloatOps.cmpfTotal .gt) x h).2 j = BitVec.ofNat 32 (rank (lane x d i) (i d)).val := by
  refine (extractStridedSlice_apply _ _ h j i fun a => (hi a).trans (Nat.zero_add _).symm).trans ?_
  unfold Host.sort2
  rw [dif_pos d.isLt]
  refine (dif_pos d.isLt).trans ?_
  show BitVec.ofNat 32 ((i.along d _) d).val = _
  unfold Shape.Idx.along
  rw [Function.update_self]
  exact congrArg (fun f => BitVec.ofNat 32 (f (i d)).val) (sorted_larger (lane x d i))

end TopK

/-! ## The gather of `take_along_axis` along the last axis -/

/-- Its dimension numbers, for an operand of `N` rows and `C` columns and `K` indices a row. -/
abbrev takeColsDims (N C K : Nat)
    (wf : GatherDims.WF ⟨2, ![N, C]⟩ ⟨3, ![N, K, 1]⟩ ⟨2, ![N, K]⟩ [] [1] [0] [1] [0] 2 ![1, 1]) :
    GatherDims ⟨2, ![N, C]⟩ ⟨3, ![N, K, 1]⟩ ⟨2, ![N, K]⟩ where
  offsetDims := []
  collapsedSliceDims := [1]
  operandBatchingDims := [0]
  startIndicesBatchingDims := [0]
  startIndexMap := [1]
  indexVectorDim := 2
  sliceSizes := ![1, 1]
  wf := wf

/-- Entry `(n, r)` is row `n`'s entry at the index, taken as a signed integer inside the row. -/
theorem gather_take_cols {α : Type} {N C K w : Nat} (hC : 0 < C)
    (wf : GatherDims.WF ⟨2, ![N, C]⟩ ⟨3, ![N, K, 1]⟩ ⟨2, ![N, K]⟩ [] [1] [0] [1] [0] 2 ![1, 1])
    (x : (⟨2, ![N, C]⟩ : Shape).Idx → α) (idx : IVec ⟨3, ![N, K, 1]⟩ w) (n : Fin N) (r : Fin K) :
    Host.gather (takeColsDims N C K wf) x idx (ix2 n r) = x (ix2 n ⟨min (idx (takeIdx (ix2 n r))).toInt.toNat (C - 1), by omega⟩) := by
  unfold Host.gather
  refine congrArg x (funext fun a => Fin.ext ?_)
  let D := takeColsDims N C K wf
  show D.start (ix2 n r) idx a + D.batchCoord (ix2 n r) a + D.offCoord (ix2 n r) a = _
  rcases (show a = 0 ∨ a = 1 from match a with | ⟨0, _⟩ => Or.inl rfl | ⟨1, _⟩ => Or.inr rfl) with rfl | rfl
  · have hb : (0 : Fin 2) ∈ D.operandBatchingDims := List.mem_singleton.mpr rfl
    rw [GatherDims.start_batching _ _ _ _ hb, GatherDims.offCoord_eq_zero _ _ _ fun h => ((GatherDims.mem_sKept _ _).mp h).2 hb,
      Nat.zero_add, Nat.add_zero]
    unfold GatherDims.batchCoord
    rw [dif_pos hb]
    rfl
  · have hm : (1 : Fin 2) ∈ D.startIndexMap := List.mem_singleton.mpr rfl
    rw [GatherDims.batchCoord_eq_zero _ _ _ (fun h => by simp [D] at h),
      GatherDims.offCoord_eq_zero _ _ _ fun h => ((GatherDims.mem_sKept _ _).mp h).1 (List.mem_singleton.mpr rfl), Nat.add_zero]
    unfold GatherDims.start
    rw [dif_pos hm]
    have hsi : D.siIdx (ix2 n r) ⟨List.idxOf (1 : Fin 2) D.startIndexMap, List.idxOf_lt_length_iff.2 hm⟩ = takeIdx (ix2 n r) := by
      funext b
      refine Fin.ext ?_
      match b with
      | ⟨0, _⟩ => rfl
      | ⟨1, _⟩ => rfl
      | ⟨2, _⟩ => rfl
    rw [hsi]
    rfl

end Cert.Router

end
-- ==== Proof.Reference.lean ====
/-
  WHAT THE REFERENCE COMPUTES: its results as named stages over the 16384 tokens, and each stage read at a token: the route (Route.lean) of
  the token's biased scores, the weights from its scores.
-/
module

public import proofs.«01_k».proof.Proof.HostSteps
public import proofs.«01_k».proof.Proof.Route
public import proofs.«01_k».proof.Proof.Scores
public import proofs.«01_k».proof.Proof.Columns
public import proofs.«01_k».proof.Proof.Gen.ReferenceIdeal.Run
public import Idealize.ShloMosaic.Lib.Pointwise

@[expose] public section

set_option maxRecDepth 16384

noncomputable section

namespace Cert.Router

open Idealize.ShloMosaic hiding ix1 ix2 ix3
open Idealize.ShloMosaic.ValueIdx Cert.ReferenceIdeal Cert.ReferenceIdeal.Gen

/-! ## The stages -/

/-- The scores: the logistic function of the logits, spelt out. -/
def refScores (hs : States) (w : Weights) : FVec Ideal S16384x64 .f32 :=
  Host.divf (broadcastInDim S16384x64 ![] bcast_S_S16384x64 (constant S_ .f32 0x3F800000#32))
    (addf (broadcastInDim S16384x64 ![] bcast_S_S16384x64 (constant S_ .f32 0x3F800000#32))
      (Host.exp (Host.negf (Host.dotGeneral dot_S16384x2048_S2048x64_S16384x64_1_0_0_1_n_n none
        (shapeCast S16384x2048 hs shapeCasts_S4x4096x2048_S16384x2048)
        (transpose S2048x64 [1, 0] w transposes_S64x2048_S2048x64_1_0)))))

/-- The biased scores. -/
def refChoice (s : FVec Ideal S16384x64 .f32) (b : FVec Ideal S64 .f32) : FVec Ideal S16384x64 .f32 :=
  addf s (broadcastInDim S16384x64 ![0, 1] bcast_S1x64_S16384x64_0_1 (broadcastInDim S1x64 ![1] bcast_S64_S1x64_1 b))

/-- The groups' scores. -/
def refGroups (v : FVec Ideal S16384x64 .f32) : FVec Ideal S16384x8 .f32 :=
  Host.reduceAdd (Host.topK S16384x8x2 2 (FloatOps.cmpfTotal .gt) (shapeCast S16384x8x8 v shapeCasts_S16384x64_S16384x8x8)
    sliceFits_S16384x8x8_S16384x8x2).1 (constant S_ .f32 0x00000000#32) reducesTo_S16384x8x2_S16384x8_d2 h_S_

/-- Where each of the four best groups is. -/
def refHits (gs : FVec Ideal S16384x8 .f32) : FVec Ideal S16384x4x8 .f32 :=
  uitofp .f32 (cmpi .eq (broadcastInDim S16384x4x8 ![0, 1, 2] bcast_S16384x4x1_S16384x4x8_0_1_2
      (broadcastInDim S16384x4x1 ![0, 1] bcast_S16384x4_S16384x4x1_0_1
        (Host.topK S16384x4 1 (FloatOps.cmpfTotal .gt) gs sliceFits_S16384x8_S16384x4).2))
    (broadcastInDim S16384x4x8 ![0, 1, 2] bcast_S1x1x8_S16384x4x8_0_1_2 (iotaInDim S1x1x8 32 2)))

/-- How many of the four best groups each group is. -/
def refMarks (gs : FVec Ideal S16384x8 .f32) : FVec Ideal S16384x8 .f32 :=
  Host.reduceAdd (refHits gs) (constant S_ .f32 0x00000000#32) reducesTo_S16384x4x8_S16384x8_d1 h_S_

/-- The groups' marks, over their experts. -/
def refSpread (e : FVec Ideal S16384x8 .f32) : FVec Ideal S16384x64 .f32 :=
  shapeCast S16384x64 (shapeCast S16384x8x8 (broadcastInDim S16384x8x1x8 ![0, 1, 2] bcast_S16384x8x1_S16384x8x1x8_0_1_2
    (broadcastInDim S16384x8x1 ![0, 1] bcast_S16384x8_S16384x8x1_0_1 e)) shapeCasts_S16384x8x1x8_S16384x8x8)
    shapeCasts_S16384x8x8_S16384x64

/-- The biased scores of the best groups, −∞ elsewhere. -/
def refMasked (v : FVec Ideal S16384x64 .f32) : FVec Ideal S16384x64 .f32 :=
  select (id (cmpf .une (refSpread (refMarks (refGroups v)))
      (broadcastInDim S16384x64 ![] bcast_S_S16384x64 (constant S_ .f32 0x00000000#32)))) v
    (broadcastInDim S16384x64 ![] bcast_S_S16384x64 (id (constant S_ .f32 0xFF800000#32)))

/-- The picked experts. -/
def refExperts (v : FVec Ideal S16384x64 .f32) : IVec S16384x8 32 :=
  (Host.topK S16384x8 1 (FloatOps.cmpfTotal .gt) (refMasked v) sliceFits_S16384x64_S16384x8).2

/-- The indices a gather reads at: negative ones from the end. -/
def refAt (ix : IVec S16384x8 32) : IVec S16384x8x1 32 :=
  shapeCast S16384x8x1 (select (cmpi .slt ix (broadcastInDim S16384x8 ![] bcast_S_S16384x8 (constantI S_ 32 0#32)))
    (addi ix (broadcastInDim S16384x8 ![] bcast_S_S16384x8 (constantI S_ 32 64#32))) ix) shapeCasts_S16384x8_S16384x8x1

/-- The scores at the picked experts; an index outside the row would read a constant. -/
def refTaken (s : FVec Ideal S16384x64 .f32) (ix : IVec S16384x8 32) : FVec Ideal S16384x8 .f32 :=
  select (Host.reduce IntOp.andi (andi
      (cmpi .sge (refAt ix) (broadcastInDim S16384x8x1 ![] bcast_S_S16384x8x1 (constantI S_ 32 0#32)))
      (cmpi .sle (refAt ix) (broadcastInDim S16384x8x1 ![0, 1, 2] bcast_S1x1x1_S16384x8x1_0_1_2
        (broadcastInDim S1x1x1 ![2] bcast_S1_S1x1x1_2 (constantI S1 32 63#32)))))
      (constantI S_ 1 1#1) reducesTo_S16384x8x1_S16384x8_d2 h_S_)
    (Host.gather gather_S16384x64_S16384x8x1_S16384x8_n_1_0_0_1_2_11 s (refAt ix))
    (broadcastInDim S16384x8 ![] bcast_S_S16384x8 (constant S_ .f32 0x7FC00000#32))

/-- Over their sum (and a small constant), times a constant. -/
def refScaled (v : FVec Ideal S16384x8 .f32) : FVec Ideal S16384x8 .f32 :=
  mulf (Host.divf v (broadcastInDim S16384x8 ![0, 1] bcast_S16384x1_S16384x8_0_1
    (addf (broadcastInDim S16384x1 ![0] bcast_S16384_S16384x1_0
      (Host.reduceAdd v (constant S_ .f32 0x00000000#32) reducesTo_S16384x8_S16384_d1 h_S_))
      (broadcastInDim S16384x1 ![] bcast_S_S16384x1 (constant S_ .f32 0x1E3CE508#32)))))
    (broadcastInDim S16384x8 ![] bcast_S_S16384x8 (constant S_ .f32 0x40200000#32))

/-- The weights. -/
def refWeights (s v : FVec Ideal S16384x64 .f32) : FVec Ideal S16384x8 .f32 := refScaled (refTaken s (refExperts v))

/-! ## Each stage at a token -/

/-- Row `n`, a token's. -/
def tok {N L : Nat} {α : Type} (v : (Blk N L).Idx → α) (n : Fin N) : Fin L → α := fun k => v (ix2 n k)

variable (v : FVec Ideal S16384x64 .f32) (n : Fin 16384)

theorem refSpread_apply (e : FVec Ideal S16384x8 .f32) (k : Fin 64) : refSpread e (ix2 n k) = e (ix2 n (groupIx k)) := by
  unfold refSpread
  pointwise
  rfl

theorem lane_groups (g r : Fin 8) :
    lane (shapeCast S16384x8x8 v shapeCasts_S16384x64_S16384x8x8) 2 (ix3 n g r) = inGroup (tok v n) g := by
  funext i
  show shapeCast S16384x8x8 v shapeCasts_S16384x64_S16384x8x8 (Function.update (ix3 n g r) 2 i) = v (ix2 n (member g i))
  have hu : Function.update (ix3 n g r : S16384x8x8.Idx) 2 i = ix3 n g i := by
    funext a
    match a with
    | ⟨0, _⟩ => rfl
    | ⟨1, _⟩ => rfl
    | ⟨2, _⟩ => rfl
  rw [hu]
  pointwise
  refine congrArg v (congrArg (ix2 n) (Fin.ext ?_))
  show g.val * 8 + i.val = 8 * g.val + i.val
  omega

/-- A group's score is the sum of its two largest. -/
theorem refGroups_apply : tok (refGroups v) n = groupScore (tok v n) := by
  funext g
  show refGroups v (ix2 n g) = _
  unfold refGroups
  rw [hostReduceAdd_apply]
  refine (Ideal.hostReduceAdd_single _ (by decide) _ _ _).trans ?_
  have hval : ∀ r : Fin 2, (Host.topK S16384x8x2 2 (FloatOps.cmpfTotal .gt) (shapeCast S16384x8x8 v shapeCasts_S16384x64_S16384x8x8)
      sliceFits_S16384x8x8_S16384x8x2).1 (ix3 n g r) = inGroup (tok v n) g (rank (inGroup (tok v n) g) (r.castLE (by decide))) := by
    intro r
    refine (topK_value 2 _ sliceFits_S16384x8x8_S16384x8x2 (ix3 n g r) (ix3 n g (r.castLE (by decide))) ?_).trans ?_
    · intro a
      match a with
      | ⟨0, _⟩ => rfl
      | ⟨1, _⟩ => rfl
      | ⟨2, _⟩ => rfl
    · rw [lane_groups]
      rfl
  have hlift : ∀ r : Fin 2, (show S16384x8x2.Reduces [2] S16384x8 by decide).lift (ix2 n g) r = ix3 n g r := by
    intro r
    funext a
    match a with
    | ⟨0, _⟩ => rfl
    | ⟨1, _⟩ => rfl
    | ⟨2, _⟩ => rfl
  refine (congrArg₂ (· + ·) Ideal.ofBits_zero_f32 (Finset.sum_congr rfl fun r _ => (congrArg _ (hlift r)).trans (hval r))).trans ?_
  rw [zero_add]
  exact Fin.sum_univ_two _

/-- The indices of a row's `top_k`. -/
theorem topK_row {N L K : Nat} (hK : K ≤ L) (y : FVec Ideal (Blk N L) .f32) (h : (Blk N L).Slices (fun _ => 0) (Blk N K)) (n : Fin N)
    (q : Fin K) : (Host.topK (Blk N K) 1 (FloatOps.cmpfTotal .gt) y h).2 (ix2 n q) = BitVec.ofNat 32 (rank (tok y n) (q.castLE hK)).val := by
  refine (topK_index (s := Blk N L) 1 y h (ix2 n q) (ix2 n (q.castLE hK)) ?_).trans ?_
  · intro a
    match a with
    | ⟨0, _⟩ => rfl
    | ⟨1, _⟩ => rfl
  · have hl : lane y 1 (ix2 n (q.castLE hK)) = tok y n := by
      funext k
      refine congrArg y (funext fun a => ?_)
      match a with
      | ⟨0, _⟩ => rfl
      | ⟨1, _⟩ => rfl
    rw [hl]
    rfl

theorem word_inj (p g : Fin 8) : BitVec.ofNat 32 p.val = BitVec.ofNat 32 g.val ↔ p = g := by
  revert p g
  decide

theorem refHits_apply (gs : FVec Ideal S16384x8 .f32) (q : Fin 4) (g : Fin 8) :
    refHits gs (ix3 n q g) = if rank (tok gs n) (q.castLE (by decide)) = g then 1 else 0 := by
  have hb : ∀ ix : IVec S16384x4 32, broadcastInDim S16384x4x8 ![0, 1, 2] bcast_S16384x4x1_S16384x4x8_0_1_2
      (broadcastInDim S16384x4x1 ![0, 1] bcast_S16384x4_S16384x4x1_0_1 ix) (ix3 n q g) = ix (ix2 n q) := by
    intro ix
    pointwise
    rfl
  have hi : broadcastInDim S16384x4x8 ![0, 1, 2] bcast_S1x1x8_S16384x4x8_0_1_2 (iotaInDim S1x1x8 32 2) (ix3 n q g)
      = BitVec.ofNat 32 g.val := by
    pointwise
  unfold refHits
  rw [uitofp_apply, cmpi_apply, hb, hi, topK_row (N := 16384) (L := 8) (K := 4) (by decide)]
  generalize rank (tok gs n) (q.castLE _) = p
  show (((BitVec.ofBool (BitVec.ofNat 32 p.val == BitVec.ofNat 32 g.val)).toNat : ℝ) : EReal) = _
  by_cases h : p = g
  · rw [if_pos h, beq_iff_eq.mpr ((word_inj p g).mpr h)]
    simp
  · rw [if_neg h, beq_eq_false_iff_ne.mpr fun h' => h ((word_inj p g).mp h')]
    simp

theorem refMarks_apply (gs : FVec Ideal S16384x8 .f32) (g : Fin 8) :
    refMarks gs (ix2 n g) = ∑ q : Fin 4, if rank (tok gs n) (q.castLE (by decide)) = g then 1 else 0 := by
  unfold refMarks
  rw [hostReduceAdd_apply]
  refine (Ideal.hostReduceAdd_single _ (by decide) _ _ _).trans ?_
  have hlift : ∀ q : Fin 4, (show S16384x4x8.Reduces [1] S16384x8 by decide).lift (ix2 n g) q = ix3 n q g := by
    intro q
    funext a
    match a with
    | ⟨0, _⟩ => rfl
    | ⟨1, _⟩ => rfl
    | ⟨2, _⟩ => rfl
  refine (congrArg₂ (· + ·) Ideal.ofBits_zero_f32 (Finset.sum_congr rfl fun q _ =>
    (congrArg (refHits gs) (hlift q)).trans (refHits_apply n gs q g))).trans (zero_add _)

/-- A group is marked when it is one of the four best. -/
theorem refMarks_ne_zero (g : Fin 8) : refMarks (refGroups v) (ix2 n g) ≠ 0 ↔ Best (tok v n) 4 g := by
  rw [refMarks_apply, refGroups_apply]
  have h0 : ∀ q ∈ (Finset.univ : Finset (Fin 4)),
      (0 : EReal) ≤ if rank (groupScore (tok v n)) (q.castLE (by decide)) = g then 1 else 0 := by
    intro q _
    split
    · exact zero_le_one
    · exact le_rfl
  rw [Ne, Finset.sum_eq_zero_iff_of_nonneg h0]
  push Not
  constructor
  · rintro ⟨q, -, hq⟩
    refine ⟨q.castLE (by decide), q.isLt, ?_⟩
    by_contra h
    exact hq (if_neg h)
  · rintro ⟨q, hq, h⟩
    refine ⟨⟨q.val, hq⟩, Finset.mem_univ _, ?_⟩
    rw [if_pos (by exact h)]
    exact one_ne_zero

theorem refMasked_apply : tok (refMasked v) n = kept (tok v n) := by
  funext k
  unfold tok refMasked id
  pointwise
  rw [refSpread_apply, word_negInf]
  unfold kept
  exact if_congr (refMarks_ne_zero v n (groupIx k)) rfl rfl

/-- The picked experts are the route's. -/
theorem refExperts_apply (r : Fin 8) : refExperts v (ix2 n r) = BitVec.ofNat 32 (expert (tok v n) r).val := by
  unfold refExperts
  rw [topK_row (N := 16384) (L := 64) (K := 8) (by decide)]
  rw [refMasked_apply]
  rfl

/-! ## The weights -/

/-- An index inside the row is kept, -/
theorem refAt_apply (ix : IVec S16384x8 32) (r : Fin 8) (p : Fin 64) (hp : ix (ix2 n r) = BitVec.ofNat 32 p.val) :
    refAt ix (ix3 n r 0) = BitVec.ofNat 32 p.val := by
  unfold refAt
  pointwise
  show Scalar.select (IntOp.cmpi .slt (ix (ix2 n r)) 0#32) (IntOp.addi (ix (ix2 n r)) 64#32) (ix (ix2 n r)) = _
  rw [hp]
  clear hp
  revert p
  decide +kernel

/-- and passes the range check, -/
theorem inRange (p : Fin 64) :
    IntOp.andi (IntOp.cmpi .sge (BitVec.ofNat 32 p.val) 0#32) (IntOp.cmpi .sle (BitVec.ofNat 32 p.val) 63#32) = 1#1 := by
  revert p
  decide +kernel

/-- so the entry it names is read. -/
theorem refTaken_apply (s : FVec Ideal S16384x64 .f32) (ix : IVec S16384x8 32) (r : Fin 8) (p : Fin 64)
    (hp : ix (ix2 n r) = BitVec.ofNat 32 p.val) : refTaken s ix (ix2 n r) = s (ix2 n p) := by
  unfold refTaken
  pointwise
  have hf : ∀ x : Fin 1, IntOp.andi (IntOp.cmpi .sge (refAt ix (ix3 n r x)) 0#32) (IntOp.cmpi .sle (refAt ix (ix3 n r x)) 63#32) = 1#1 := by
    intro x
    obtain rfl : x = 0 := Subsingleton.elim _ _
    rw [refAt_apply n ix r p hp]
    exact inRange p
  have hg : Host.gather gather_S16384x64_S16384x8x1_S16384x8_n_1_0_0_1_2_11 s (refAt ix) (ix2 n r) = s (ix2 n p) := by
    refine (gather_take_cols (N := 16384) (C := 64) (K := 8) (by decide) _ s (refAt ix) n r).trans ?_
    refine congrArg s (congrArg (ix2 n) (Fin.ext ?_))
    have ht : takeIdx (ix2 n r : S16384x8.Idx) = ix3 n r 0 := by
      funext a
      match a with
      | ⟨0, _⟩ => rfl
      | ⟨1, _⟩ => rfl
      | ⟨2, _⟩ => rfl
    show min (refAt ix (takeIdx (ix2 n r : S16384x8.Idx))).toInt.toNat 63 = p.val
    rw [ht, refAt_apply n ix r p hp]
    clear hp hf
    revert p
    decide +kernel
  refine (congrArg₂ (fun a b => Scalar.select a b (Ideal.ofBits .f32 2143289344#32)) (Finset.fold_congr (g := fun _ => 1#1) fun x _ => hf x) hg).trans ?_
  rfl

theorem refScaled_apply (y : FVec Ideal S16384x8 .f32) (r : Fin 8) : refScaled y (ix2 n r)
    = Ideal.div (y (ix2 n r)) ((∑ q : Fin 8, y (ix2 n q)) + Ideal.ofBits .f32 0x1E3CE508#32) * Ideal.ofBits .f32 0x40200000#32 := by
  unfold refScaled
  pointwise
  rfl

/-- The weights are the route's, from the scores `s`. -/
theorem refWeights_apply (s : FVec Ideal S16384x64 .f32) (r : Fin 8) : refWeights s v (ix2 n r) = weight (tok v n) (tok s n) r := by
  have h : ∀ q, refTaken s (refExperts v) (ix2 n q) = tok s n (expert (tok v n) q) := fun q =>
    refTaken_apply n s _ q _ (refExperts_apply v n q)
  unfold refWeights
  rw [refScaled_apply, h]
  simp only [h]
  rfl

/-! ## The scores -/

theorem refScores_apply (hs : States) (w : Weights) (k : Fin 64) : refScores hs w (ix2 n k) = score hs w n k := by
  unfold refScores
  pointwise
  rfl

theorem refChoice_apply (s : FVec Ideal S16384x64 .f32) (b : Bias) (k : Fin 64) :
    refChoice s b (ix2 n k) = s (ix2 n k) + b (ix1 k) := by
  unfold refChoice
  pointwise
  rfl

variable (hs : States) (w : Weights) (b : Bias)

theorem tok_refScores : tok (refScores hs w) n = score hs w n := funext fun k => refScores_apply n hs w k

theorem tok_refChoice : tok (refChoice (refScores hs w) b) n = biased hs w b n := funext fun k => by
  show refChoice (refScores hs w) b (ix2 n k) = _
  rw [refChoice_apply, refScores_apply]
  rfl

/-- The reference's first result at an entry. -/
theorem ref_experts (r : Fin 8) :
    refExperts (refChoice (refScores hs w) b) (ix2 n r) = BitVec.ofNat 32 (expert (biased hs w b n) r).val := by
  rw [refExperts_apply, tok_refChoice]

/-- The reference's second result at an entry. -/
theorem ref_weights (r : Fin 8) :
    refWeights (refScores hs w) (refChoice (refScores hs w) b) (ix2 n r) = weight (biased hs w b n) (score hs w n) r := by
  rw [refWeights_apply, tok_refChoice, tok_refScores]

end Cert.Router

end
-- ==== Proof.ReferenceRun.lean ====
/-
  THE REFERENCE'S RUN: every run of the reference ends with its two results at the stages of Reference.lean and its arguments unchanged.
-/
module

public import proofs.«01_k».proof.Proof.Reference

@[expose] public section

set_option maxRecDepth 16384

noncomputable section

namespace Cert.Router

open Idealize.ShloMosaic Idealize.SL.Sem Cert.ReferenceIdeal Cert.ReferenceIdeal.Gen

variable (m : (ℓ : Loc nD τ sig) → Buf (Elt Ideal) ℓ) (ρ : Dev nD → PrngReg)

/-- The reference's scores of the run's arguments. -/
abbrev scoresOf (c : Dev nD) : FVec Ideal S16384x64 .f32 :=
  refScores (m ((c.tc : Thread nD τ).loc main_arg0)) (m ((c.tc : Thread nD τ).loc main_arg1))

/-- The reference's biased scores of the run's arguments. -/
abbrev choiceOf (c : Dev nD) : FVec Ideal S16384x64 .f32 := refChoice (scoresOf m c) (m ((c.tc : Thread nD τ).loc main_arg2))

theorem weights_value (c : Dev nD) : Value.res_main_v32 (F := Ideal) m c = refWeights (scoresOf m c) (choiceOf m c) := by
  unfold Value.res_main_v32
  rfl

theorem reference_run :
    θ_run defs (onTc (τ := τ) (main (F := Ideal))) ⟨m, fun _ => 0, ρ⟩ fun r => ∀ c : Dev nD,
      r.2.mem ((c.tc : Thread nD τ).loc main_indices_8) = refExperts (choiceOf m c)
      ∧ r.2.mem ((c.tc : Thread nD τ).loc main_v32) = refWeights (scoresOf m c) (choiceOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1.trans (weights_value m c), (h c).2.2⟩) (Value.run (F := Ideal) m ρ)

end Cert.Router

end
-- ==== Proof.Equation.lean ====
/-
  THE EQUATION: from memories that agree on the arguments, the kernel's first result is the reference's wherever the bias is never −∞, and
  its second result is the reference's where the bias is 0, the biased scores then being the scores.
-/
module

public import proofs.«01_k».proof.Proof.KernelRun
public import proofs.«01_k».proof.Proof.ReferenceRun

@[expose] public section

set_option maxRecDepth 16384

noncomputable section

namespace Cert.Router

open Idealize.ShloMosaic hiding ix1 ix2 ix3
open Idealize.ShloMosaic.ValueIdx

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same arguments. -/
abbrev Agree : Prop :=
  m' ((c.tc : Thread Cert.ReferenceIdeal.nD Cert.ReferenceIdeal.τ).loc Cert.ReferenceIdeal.main_arg0) = argStates m c
  ∧ m' ((c.tc : Thread Cert.ReferenceIdeal.nD Cert.ReferenceIdeal.τ).loc Cert.ReferenceIdeal.main_arg1) = argWeights m c
  ∧ m' ((c.tc : Thread Cert.ReferenceIdeal.nD Cert.ReferenceIdeal.τ).loc Cert.ReferenceIdeal.main_arg2) = argBias m c

variable (h : Agree m m' c)
include h

theorem experts_eq : refExperts (choiceOf m' c) = expertsOf m c := by
  unfold choiceOf scoresOf
  rw [h.1, h.2.1, h.2.2]
  funext i
  obtain ⟨n, r, rfl⟩ : ∃ (n : Fin 16384) (r : Fin 8), i = ix2 n r := ⟨i 0, i 1, ValueIdx.eq_ix2 i⟩
  exact (ref_experts n (argStates m c) (argWeights m c) (argBias m c) r).trans (expertsOf_apply m c n r).symm

theorem weights_eq (hb : ∀ k, argBias m c (ix1 k) = 0) : refWeights (scoresOf m' c) (choiceOf m' c) = weightsOf m c := by
  unfold choiceOf scoresOf
  rw [h.1, h.2.1, h.2.2]
  funext i
  obtain ⟨n, r, rfl⟩ : ∃ (n : Fin 16384) (r : Fin 8), i = ix2 n r := ⟨i 0, i 1, ValueIdx.eq_ix2 i⟩
  refine (ref_weights n (argStates m c) (argWeights m c) (argBias m c) r).trans ?_
  rw [weightsOf_apply, biasedAt, biased_zero _ _ _ hb]

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Conditions
public import proofs.«01_k».proof.Proof.Equation
public import Idealize.ShloMosaic.Adequacy
public import Idealize.ShloMosaic.Init

@[expose] public section

noncomputable section

namespace Cert.Proof

open Idealize.ShloMosaic Idealize.SL.Sem Cert.Router

/-- The reference runs, leaves its arguments as they were and ends with every counter at zero: it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- With a bias of zero, both results are the reference's. -/
theorem value_zero_bias : Cert.algebraic_KernelIdeal_ReferenceIdeal_pre_zero_bias (hPre_zero_bias := facts_zero_bias) :=
  fun m ρ m' ρ' hpre hagree => by
    have := facts_zero_bias
    have hb : ∀ c k, argBias m c (ValueIdx.ix1 k) = 0 := fun c k => zero_of_pre _ _ _ (hpre c) k
    refine ⟨expertsOf m, weightsOf m, kernel_run m ρ fun c k => by rw [hb c k]; exact EReal.bot_lt_zero, ?_⟩
    exact (θ_run _ _ _).mono (fun _ h c => ⟨(h c).1.trans (experts_eq m m' c (hagree c)),
      (h c).2.1.trans (weights_eq m m' c (hagree c) (hb c)), (h c).2.2⟩) (reference_run m' ρ')

/-- With a bias that is never −∞, the first result is the reference's. -/
theorem value_bias_above : Cert.algebraic_KernelIdeal_ReferenceIdeal_on_indices_only_pre_bias_above_neg_inf
    (hPre_bias_above_neg_inf := facts_bias_above) (hOn_indices_only := facts_indices_only) :=
  fun m ρ m' ρ' hpre hagree => by
    have := facts_bias_above
    have := facts_indices_only
    refine ⟨expertsOf m, weightsOf m,
      (θ_run _ _ _).mono (fun _ h c => ⟨fun i _ => congrFun (h c).1 i, fun i _ => congrFun (h c).2.1 i, (h c).2.2⟩)
        (kernel_run m ρ fun c k => above_of_pre _ _ _ (hpre c) k), ?_⟩
    exact (θ_run _ _ _).mono (fun _ h c => ⟨fun i _ => congrFun ((h c).1.trans (experts_eq m m' c (hagree c))) i,
      fun i hi => absurd hi (mask_weights _ _ _ i), (h c).2.2⟩) (reference_run m' ρ')

theorem claim : Cert.Claim := ⟨Cert.Kernel.Gen.facts, Cert.KernelIdeal.Gen.facts, Cert.ReferenceIdeal.Gen.facts,
  facts_zero_bias, facts_bias_above, facts_indices_only,
  fun m ρ _ => Cert.Kernel.Gen.frame m ρ, fun m ρ _ => Cert.KernelIdeal.Gen.frame m ρ,
  fun m ρ _ => Cert.KernelIdeal.Gen.frame m ρ, fun m ρ _ => Cert.KernelIdeal.Gen.frame m ρ,
  frame_reference, fun m ρ _ => frame_reference m ρ trivial, fun m ρ _ => frame_reference m ρ trivial,
  trivial, value_zero_bias, value_bias_above⟩

end Cert.Proof

end
